-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2" .f32 0x3F317218#32 ((Real.log 2 : ℝ) : EReal)
  ∧ IdealRules.sign_bit.Statement Cert.KernelIdeal.S1024x64 .f32

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x64 : Shape := ⟨2, ![1024, 64]⟩
abbrev S1024x512 : Shape := ⟨2, ![1024, 512]⟩
abbrev S1024x100 : Shape := ⟨2, ![1024, 100]⟩
abbrev S1024 : Shape := ⟨1, ![1024]⟩
abbrev S_ : Shape := ⟨0, ![]⟩
abbrev S100000x64 : Shape := ⟨2, ![100000, 64]⟩
abbrev S100000x100 : Shape := ⟨2, ![100000, 100]⟩
abbrev S100000 : Shape := ⟨1, ![100000]⟩

class Facts : Prop where
  bcast_S_S1024 : S_.BroadcastsInDim S1024 (![] : Fin 0 → Fin S1024.rank)
  bcast_S_S100000x64 : S_.BroadcastsInDim S100000x64 (![] : Fin 0 → Fin S100000x64.rank)
  bcast_S_S1024x100 : S_.BroadcastsInDim S1024x100 (![] : Fin 0 → Fin S1024x100.rank)
  natLt_1_32 : 1 < 32
  reducesTo_S1024x100_S1024_d1 : S1024x100.ReducesTo [1] S1024
  h_S_ : 0 < S_.numel
  bcast_S_S100000x100 : S_.BroadcastsInDim S100000x100 (![] : Fin 0 → Fin S100000x100.rank)
  reducesTo_S100000x100_S100000_d1 : S100000x100.ReducesTo [1] S100000
  bcast_S_S100000 : S_.BroadcastsInDim S100000 (![] : Fin 0 → Fin S100000.rank)

variable [Facts]

def fn_part1 {F : FTy → Type} [FloatOps F] (main_arg6 : FVec F S100000x100 .f32) (main_v4 : IVec S1024 1) (main_v6 : IVec S100000x64 1) (main_v11 : IVec S1024x100 1) (main_v15 : IVec S1024 32) (main_c_5 : IVec S_ 32) : IVec S1024 1 × IVec S100000x64 1 × IVec S1024x100 1 × IVec S1024 1 × IVec S100000x100 1 × IVec S100000 1 :=
  let main_v16 : IVec S1024 32 := broadcastInDim S1024 ![] bcast_S_S1024 main_c_5
  let main_v17 : IVec S1024 1 := cmpi .eq main_v15 main_v16
  let main_cst_6 : FVec F S_ .f32 := constant S_ .f32 0x00000000#32
  let main_v18 : FVec F S100000x100 .f32 := broadcastInDim S100000x100 ![] bcast_S_S100000x100 main_cst_6
  let main_v19 : IVec S100000x100 1 := cmpf .oeq main_arg6 main_v18
  let main_cst_7 : FVec F S_ .f32 := constant S_ .f32 0x3F800000#32
  let main_v20 : FVec F S100000x100 .f32 := broadcastInDim S100000x100 ![] bcast_S_S100000x100 main_cst_7
  let main_v21 : IVec S100000x100 1 := cmpf .oeq main_arg6 main_v20
  let main_v22 : IVec S100000x100 1 := ori main_v19 main_v21
  let main_cst_8 : FVec F S_ .f32 := constant S_ .f32 0x3F800000#32
  let main_v23 : FVec F S100000x100 .f32 := broadcastInDim S100000x100 ![] bcast_S_S100000x100 main_cst_8
  let main_v24 : IVec S100000x100 1 := cmpf .oeq main_arg6 main_v23
  let main_v25 : IVec S100000x100 32 := (extui 32 · natLt_1_32) main_v24
  let main_c_9 : IVec S_ 32 := constantI S_ 32 0#32
  let main_v26 : IVec S100000 32 := (fun x v => Host.reduce IntOp.addi x v reducesTo_S100000x100_S100000_d1 h_S_) main_v25 main_c_9
  let main_c_10 : IVec S_ 32 := constantI S_ 32 1#32
  let main_v27 : IVec S100000 32 := broadcastInDim S100000 ![] bcast_S_S100000 main_c_10
  let main_v28 : IVec S100000 1 := cmpi .eq main_v26 main_v27
  (main_v4, main_v6, main_v11, main_v17, main_v22, main_v28)

def fn {F : FTy → Type} [FloatOps F] (main_arg0 : FVec F S1024x64 .f32) (main_arg1 : FVec F S1024x512 .f32) (main_arg2 : FVec F S1024x100 .f32) (main_arg3 : IVec S1024 32) (main_arg4 : IVec S_ 32) (main_arg5 : FVec F S100000x64 .f32) (main_arg6 : FVec F S100000x100 .f32) : IVec S1024 1 × IVec S100000x64 1 × IVec S1024x100 1 × IVec S1024 1 × IVec S100000x100 1 × IVec S100000 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 100000#32
  let main_v2 : IVec S1024 32 := broadcastInDim S1024 ![] bcast_S_S1024 main_c_0
  let main_v3 : IVec S1024 1 := cmpi .slt main_arg3 main_v2
  let main_v4 : IVec S1024 1 := andi main_v1 main_v3
  let main_cst : FVec F S_ .f32 := constant S_ .f32 0x00000000#32
  let main_v5 : FVec F S100000x64 .f32 := broadcastInDim S100000x64 ![] bcast_S_S100000x64 main_cst
  let main_v6 : IVec S100000x64 1 := cmpf .oeq main_arg5 main_v5
  let main_cst_1 : FVec F S_ .f32 := constant S_ .f32 0x00000000#32
  let main_v7 : FVec F S1024x100 .f32 := broadcastInDim S1024x100 ![] bcast_S_S1024x100 main_cst_1
  let main_v8 : IVec S1024x100 1 := cmpf .oeq main_arg2 main_v7
  let main_cst_2 : FVec F S_ .f32 := constant S_ .f32 0x3F800000#32
  let main_v9 : FVec F S1024x100 .f32 := broadcastInDim S1024x100 ![] bcast_S_S1024x100 main_cst_2
  let main_v10 : IVec S1024x100 1 := cmpf .oeq main_arg2 main_v9
  let main_v11 : IVec S1024x100 1 := ori main_v8 main_v10
  let main_cst_3 : FVec F S_ .f32 := constant S_ .f32 0x3F800000#32
  let main_v12 : FVec F S1024x100 .f32 := broadcastInDim S1024x100 ![] bcast_S_S1024x100 main_cst_3
  let main_v13 : IVec S1024x100 1 := cmpf .oeq main_arg2 main_v12
  let main_v14 : IVec S1024x100 32 := (extui 32 · natLt_1_32) main_v13
  let main_c_4 : IVec S_ 32 := constantI S_ 32 0#32
  let main_v15 : IVec S1024 32 := (fun x v => Host.reduce IntOp.addi x v reducesTo_S1024x100_S1024_d1 h_S_) main_v14 main_c_4
  let main_c_5 : IVec S_ 32 := constantI S_ 32 1#32
  fn_part1 (F := F) main_arg6 main_v4 main_v6 main_v11 main_v15 main_c_5
-- ==== Pre_in_range.lean ====
abbrev S1024x64 : Shape := ⟨2, ![1024, 64]⟩
abbrev S1024x512 : Shape := ⟨2, ![1024, 512]⟩
abbrev S1024x100 : Shape := ⟨2, ![1024, 100]⟩
abbrev S1024 : Shape := ⟨1, ![1024]⟩
abbrev S_ : Shape := ⟨0, ![]⟩
abbrev S100000x64 : Shape := ⟨2, ![100000, 64]⟩
abbrev S100000x100 : Shape := ⟨2, ![100000, 100]⟩

class Facts : Prop where
  bcast_S_S1024 : S_.BroadcastsInDim S1024 (![] : Fin 0 → Fin S1024.rank)

variable [Facts]

def fn {F : FTy → Type} [FloatOps F] (main_arg0 : FVec F S1024x64 .f32) (main_arg1 : FVec F S1024x512 .f32) (main_arg2 : FVec F S1024x100 .f32) (main_arg3 : IVec S1024 32) (main_arg4 : IVec S_ 32) (main_arg5 : FVec F S100000x64 .f32) (main_arg6 : FVec F S100000x100 .f32) : IVec S1024 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 100000#32
  let main_v2 : IVec S1024 32 := broadcastInDim S1024 ![] bcast_S_S1024 main_c_0
  let main_v3 : IVec S1024 1 := cmpi .slt main_arg3 main_v2
  let main_v4 : IVec S1024 1 := andi main_v1 main_v3
  main_v4
-- ==== Kernel.lean ====
abbrev S1024x64 : Shape := ⟨2, ![1024, 64]⟩
abbrev S1024x512 : Shape := ⟨2, ![1024, 512]⟩
abbrev S1024x100 : Shape := ⟨2, ![1024, 100]⟩
abbrev S1024 : Shape := ⟨1, ![1024]⟩
abbrev S_ : Shape := ⟨0, ![]⟩
abbrev S100000x64 : Shape := ⟨2, ![100000, 64]⟩
abbrev S100000x100 : Shape := ⟨2, ![100000, 100]⟩
abbrev S100x100000 : Shape := ⟨2, ![100, 100000]⟩
abbrev S1x100000 : Shape := ⟨2, ![1, 100000]⟩
abbrev S1x100 : Shape := ⟨2, ![1, 100]⟩
abbrev S100000 : Shape := ⟨1, ![100000]⟩
abbrev S32 : Shape := ⟨1, ![32]⟩
abbrev S1x1024 : Shape := ⟨2, ![1, 1024]⟩
abbrev S1024x1 : Shape := ⟨2, ![1024, 1]⟩
abbrev S1x128 : Shape := ⟨2, ![1, 128]⟩
abbrev S2 : Shape := ⟨1, ![2]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩
abbrev S1x1024x64 : Shape := ⟨3, ![1, 1024, 64]⟩
abbrev S1x3 : Shape := ⟨2, ![1, 3]⟩
abbrev S3 : Shape := ⟨1, ![3]⟩

abbrev nBuf : Table → Nat
  | .hbm => 18
  | .local .tc .vmem => 9
  | .local .tc .smem => 1
  | .local .scVector .vmem => 2
  | _ => 0

abbrev bufTy : (tb : Table) → Fin (nBuf tb) → BufTy
  | .hbm, ⟨0, _⟩ => ⟨S1024x64, .f32⟩
  | .hbm, ⟨1, _⟩ => ⟨S1024x512, .f32⟩
  | .hbm, ⟨2, _⟩ => ⟨S1024x100, .f32⟩
  | .hbm, ⟨3, _⟩ => ⟨S1024, .i32⟩
  | .hbm, ⟨4, _⟩ => ⟨S_, .i32⟩
  | .hbm, ⟨5, _⟩ => ⟨S100000x64, .f32⟩
  | .hbm, ⟨6, _⟩ => ⟨S100000x100, .f32⟩
  | .hbm, ⟨7, _⟩ => ⟨S100x100000, .f32⟩
  | .hbm, ⟨8, _⟩ => ⟨S1x100000, .f32⟩
  | .hbm, ⟨9, _⟩ => ⟨S100000, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024x1, .f32⟩
  | .hbm, ⟨14, _⟩ => ⟨S1x1024, .f32⟩
  | .hbm, ⟨15, _⟩ => ⟨S1x128, .f32⟩
  | .hbm, ⟨16, _⟩ => ⟨S1x3, .f32⟩
  | .hbm, ⟨17, _⟩ => ⟨S3, .f32⟩
  | .local .tc .vmem, ⟨0, _⟩ => ⟨S100x100000, .f32⟩
  | .local .tc .vmem, ⟨1, _⟩ => ⟨S1x100000, .f32⟩
  | .local .tc .vmem, ⟨2, _⟩ => ⟨S1024x64, .f32⟩
  | .local .tc .vmem, ⟨3, _⟩ => ⟨S1024x64, .f32⟩
  | .local .tc .vmem, ⟨4, _⟩ => ⟨S1024x100, .f32⟩
  | .local .tc .vmem, ⟨5, _⟩ => ⟨S1x1024, .f32⟩
  | .local .tc .vmem, ⟨6, _⟩ => ⟨S1024x1, .f32⟩
  | .local .tc .vmem, ⟨7, _⟩ => ⟨S1x1024, .f32⟩
  | .local .tc .vmem, ⟨8, _⟩ => ⟨S1x128, .f32⟩
  | .local .tc .smem, ⟨0, _⟩ => ⟨S2, .f32⟩
  | .local .scVector .vmem, ⟨0, _⟩ => ⟨S32, .i32⟩
  | .local .scVector .vmem, ⟨1, _⟩ => ⟨S32, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v2_scv : Ref sig .scVector := ⟨.hbm, 9, rfl⟩
abbrev main_arg3_scv : Ref sig .scVector := ⟨.hbm, 3, rfl⟩
abbrev main_v3_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc2_sem0_0 : DmaSem sig := 5
abbrev cc2_sem1_0 : DmaSem sig := 6
abbrev cc2_sem2_0 : DmaSem sig := 7
abbrev cc2_sem3_0 : DmaSem sig := 8
abbrev cc2_sem4_0 : DmaSem sig := 9
abbrev cc2_sem5_0 : DmaSem sig := 10
abbrev cc2_sem6_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := .none

abbrev stage0_0 : Fin 1 → Memref sig .tc .vmem S100x100000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid2 : Pipeline.Grid := ⟨1, ![1], ![false]⟩

def k2_cond2 (i : grid2.Coords) : BitVec 1 :=
  let arg0 : BitVec 32 := BitVec.ofNat 32 (i 0).val
  let c0_i32_29 : BitVec 32 := 0#32
  let v70 : BitVec 1 := Scalar.cmpi .eq arg0 c0_i32_29
  let v71 : BitVec 32 := Scalar.extui v70
  let c0_i32_30 : BitVec 32 := 0#32
  let v72 : BitVec 1 := Scalar.cmpi .ne v71 c0_i32_30
  v72

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2" => some ((Real.log 2 : ℝ) : EReal)
  | _ => none
-- ==== ReferenceIdeal.lean ====
abbrev S1024x64 : Shape := ⟨2, ![1024, 64]⟩
abbrev S1024x512 : Shape := ⟨2, ![1024, 512]⟩
abbrev S1024x100 : Shape := ⟨2, ![1024, 100]⟩
abbrev S1024 : Shape := ⟨1, ![1024]⟩
abbrev S_ : Shape := ⟨0, ![]⟩
abbrev S100000x64 : Shape := ⟨2, ![100000, 64]⟩
abbrev S100000x100 : Shape := ⟨2, ![100000, 100]⟩
abbrev S1024x1 : Shape := ⟨2, ![1024, 1]⟩
abbrev S100x100000 : Shape := ⟨2, ![100, 100000]⟩
abbrev S1024x100000 : Shape := ⟨2, ![1024, 100000]⟩
abbrev S64x100000 : Shape := ⟨2, ![64, 100000]⟩
abbrev S1 : Shape := ⟨1, ![1]⟩
abbrev S3 : Shape := ⟨1, ![3]⟩

abbrev nBuf : Space → Nat
  | .hbm => 69
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x512, .f32⟩
  | .hbm, ⟨2, _⟩ => ⟨S1024x100, .f32⟩
  | .hbm, ⟨3, _⟩ => ⟨S1024, .i32⟩
  | .hbm, ⟨4, _⟩ => ⟨S_, .i32⟩
  | .hbm, ⟨5, _⟩ => ⟨S100000x64, .f32⟩
  | .hbm, ⟨6, _⟩ => ⟨S100000x100, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S100000x64, .f32⟩
  | .hbm, ⟨16, _⟩ => ⟨S100x100000, .f32⟩
  | .hbm, ⟨17, _⟩ => ⟨S1024x100000, .f32⟩
  | .hbm, ⟨18, _⟩ => ⟨S_, .f32⟩
  | .hbm, ⟨19, _⟩ => ⟨S1024x100000, .f32⟩
  | .hbm, ⟨20, _⟩ => ⟨S1024x100000, .i1⟩
  | .hbm, ⟨21, _⟩ => ⟨S1024x100000, .f32⟩
  | .hbm, ⟨22, _⟩ => ⟨S64x100000, .f32⟩
  | .hbm, ⟨23, _⟩ => ⟨S1024x100000, .f32⟩
  | .hbm, ⟨24, _⟩ => ⟨S_, .f32⟩
  | .hbm, ⟨25, _⟩ => ⟨S1024x100000, .f32⟩
  | .hbm, ⟨26, _⟩ => ⟨S1024x100000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024x100000, .f32⟩
  | .hbm, ⟨34, _⟩ => ⟨S1024x100000, .f32⟩
  | .hbm, ⟨35, _⟩ => ⟨S_, .f32⟩
  | .hbm, ⟨36, _⟩ => ⟨S1024x100000, .f32⟩
  | .hbm, ⟨37, _⟩ => ⟨S1024x100000, .f32⟩
  | .hbm, ⟨38, _⟩ => ⟨S1024x100000, .f32⟩
  | .hbm, ⟨39, _⟩ => ⟨S1024x100000, .f32⟩
  | .hbm, ⟨40, _⟩ => ⟨S1024x100000, .i1⟩
  | .hbm, ⟨41, _⟩ => ⟨S1024x100000, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1024x64, .f32⟩
  | .hbm, ⟨56, _⟩ => ⟨S1024x64, .f32⟩
  | .hbm, ⟨57, _⟩ => ⟨S1024x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S1, .f32⟩
  | .hbm, ⟨68, _⟩ => ⟨S3, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_cst_7 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.KernelIdeal.Base.lean ====
/-
  The program as its launch is described: the SparseCore call, the two pipelines, the ghost state, and the names of the
  buffers on device `d`. Every other module about this program's run imports this one.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The printed semaphores of the SparseCore call are distinct and of the scopes the launch wants. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL

/-- The two components on the right, together. -/
abbrev ER : Emb (UP × Counters) (MT nD τ sig (HIx 1) (Elt F) ℕ UU ℕ) := embR

/-- The pipelines' component. -/
abbrev EP : Emb UP (MT nD τ sig (HIx 1) (Elt F) ℕ UU ℕ) := (Emb.inl : Emb UP (UP × Counters)).trans ER

/-! ## The buffers -/

abbrev xLoc (d : Dev nD) : Loc nD τ sig := (SparseCore.T d).loc main_arg0
abbrev tabLoc (d : Dev nD) : Loc nD τ sig := (SparseCore.T d).loc main_v2
abbrev idxLoc (d : Dev nD) : Loc nD τ sig := (SparseCore.T d).loc main_arg3
abbrev outLoc (d : Dev nD) : Loc nD τ sig := (SparseCore.T d).loc main_v3

end Cert.KernelIdeal.Run

end
-- ==== Proof.KernelIdeal.Gather.lean ====
/-
  The SparseCore call: each of the 32 vector subcores copies its 32 entries of the index array into its own scratch,
  gathers those entries of the label table, and copies what it gathered to its block of the result. Here: what a
  subcore is given and hands back, its run with the value it leaves (`tile_body`), and the same for the whole call.
-/
module

public import proofs.«01_k».proof.Proof.KernelIdeal.Base

@[expose] public section

noncomputable section

namespace Cert.KernelIdeal.Run

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The label table, the index array, the result, and the two scratch buffers, each whole. -/
abbrev tabV : Memref Cert.KernelIdeal.sig Kind.scVector Space.hbm Cert.KernelIdeal.S100000 EltTy.f32 := Memref.whole Cert.KernelIdeal.main_v2_scv
abbrev idxV : Memref Cert.KernelIdeal.sig Kind.scVector Space.hbm Cert.KernelIdeal.S1024 EltTy.i32 := Memref.whole Cert.KernelIdeal.main_arg3_scv
abbrev outV : Memref Cert.KernelIdeal.sig Kind.scVector Space.hbm Cert.KernelIdeal.S1024 EltTy.f32 := Memref.whole Cert.KernelIdeal.main_v3_scv
abbrev lstV : Memref Cert.KernelIdeal.sig Kind.scVector Space.vmem Cert.KernelIdeal.S32 EltTy.i32 := Memref.whole Cert.KernelIdeal.cc1_scratch0
abbrev rowV : Memref Cert.KernelIdeal.sig Kind.scVector Space.vmem Cert.KernelIdeal.S32 EltTy.f32 := Memref.whole Cert.KernelIdeal.cc1_scratch1

/-! ## The value -/

/-- Entry `j` of the gathered array: the table at the index the index array names at `j` (read modulo the table's
    length, which changes nothing for an index in range). -/
def gathered (tab : S100000.Idx → Elt F .f32) (idx : S1024.Idx → Elt F .i32) : S1024.Idx → Elt F .f32 :=
  fun j => tab (fun | 0 => ⟨(idx j).toNat % 100000, Nat.mod_lt _ (by decide)⟩)

/-! ## The blocks of the index array and of the result, the shares of the table -/

theorem div32 : 32 ∣ S1024.size 0 := ⟨32, rfl⟩
/-- Block `b` of the 32 blocks of 32 entries. -/
abbrev blk (b : Fin 32) : Rect S1024 := Rect.part (s := S1024) (a₀ := 0) div32 b
abbrev blkSet (b : Fin 32) : Finset S1024.Idx := (blk b).set

/-- The block of the subcore at `(c, i)`. -/
def blockOf (c : Fin 2) (i : Fin 16) : Fin 32 := ⟨2 * i.val + c.val, by omega⟩

/-- Every block is one subcore's. -/
def blockEquiv : Fin 2 × Fin 16 ≃ Fin 32 where
  toFun p := blockOf p.1 p.2
  invFun b := (⟨b.val % 2, by omega⟩, ⟨b.val / 2, by omega⟩)
  left_inv p := by
    obtain ⟨c, i⟩ := p
    refine Prod.ext (Fin.ext ?_) (Fin.ext ?_) <;> simp only [blockOf] <;> omega
  right_inv b := Fin.ext (by simp only [blockOf]; omega)

/-- The share of the table the subcore with block `b` reads. -/
abbrev tabShare (b : Fin 32) : PosShare TreeShare := ShareLeaves.leaf 5 fullShare b

theorem blk_disjoint : ∀ i ∈ (Finset.univ : Finset (Fin 32)), ∀ j ∈ (Finset.univ : Finset (Fin 32)), i ≠ j → Disjoint (blkSet i) (blkSet j) :=
  fun _ _ _ _ h => Rect.part_disjoint div32 h
theorem blk_cover : (Finset.univ : Finset (Fin 32)).biUnion blkSet = Finset.univ := Rect.biUnion_part div32

/-- A points-to of the index array is its blocks'. -/
theorem idx_blocks (d : Dev nD) (f : Buf (Elt F) (idxLoc d)) :
    (idxLoc d ↦{fullShare} f : sProp 𝕄) = bigSep Finset.univ fun b : Fin 32 => idxLoc d ↦[blkSet b]{fullShare} f := by
  rw [← pointsTo_biUnion Finset.univ (ℓ := idxLoc d) blkSet blk_disjoint, blk_cover]; try rfl
/-- A points-to of the result is its blocks'. -/
theorem out_blocks (d : Dev nD) (f : Buf (Elt F) (outLoc d)) :
    (outLoc d ↦{fullShare} f : sProp 𝕄) = bigSep Finset.univ fun b : Fin 32 => outLoc d ↦[blkSet b]{fullShare} f := by
  rw [← pointsTo_biUnion Finset.univ (ℓ := outLoc d) blkSet blk_disjoint, blk_cover]; try rfl
/-- A points-to of the table is its 32 shares'. -/
theorem tab_shares (d : Dev nD) (f : Buf (Elt F) (tabLoc d)) :
    (tabLoc d ↦{fullShare} f : sProp 𝕄) = bigSep Finset.univ fun b : Fin 32 => tabLoc d ↦{tabShare b} f :=
  ShareLeaves.pointsTo_leaves Finset.univ f 5 fullShare

/-! ## What a subcore is given and hands back -/

section Payload

variable (tab : (d : Dev nD) → Buf (Elt F) (tabLoc d)) (idx : (d : Dev nD) → Buf (Elt F) (idxLoc d)) (out : (d : Dev nD) → Buf (Elt F) (outLoc d))

/-- A subcore's piece of the operands: its block of the indices, its share of the table, its block of the result at `g`. -/
abbrev piece (g : (d : Dev nD) → Buf (Elt F) (outLoc d)) (d : Dev nD) (b : Fin 32) : sProp 𝕄 :=
  iprop((idxLoc d ↦[blkSet b]{fullShare} idx d) ∗ (tabLoc d ↦{tabShare b} tab d) ∗ (outLoc d ↦[blkSet b]{fullShare} g d))

/-- The result of the call on device `d`. -/
abbrev gout (d : Dev nD) : Buf (Elt F) (outLoc d) := gathered (F := F) (tab d) (idx d)

/-- A SparseCore takes its sixteen subcores' pieces and hands them back, the result's blocks at the gathered entries. -/
def P : (K (F := F)).Pay (nD := nD) (Val := Elt F) (Name := ℕ) (U := UU) where
  st := fun q d c => match q with | 0 => bigSep Finset.univ fun i : Fin 16 => piece tab idx out d (blockOf (Fin.cast nCore_zero c) i)
  dn := fun q d c => match q with | 0 => bigSep Finset.univ fun i : Fin 16 => piece tab idx (gout tab idx) d (blockOf (Fin.cast nCore_zero c) i)
  go := fun q d c i => match q with | 0 => piece tab idx out d (blockOf (Fin.cast nCore_zero c) (Fin.cast nSub_zero i))
  td := fun q d c i => match q with | 0 => piece tab idx (gout tab idx) d (blockOf (Fin.cast nCore_zero c) (Fin.cast nSub_zero i))
  x := fun _ _ => iprop(emp)

instance P_storable : (P tab idx out).IsStorable where
  st q d c := match q with
    | 0 => (inferInstance : BI.Storable (upEmb : UEmb _ 𝕄) (bigSep Finset.univ fun i : Fin 16 => piece tab idx out d (blockOf (Fin.cast nCore_zero c) i)))
  dn q d c := match q with
    | 0 => (inferInstance : BI.Storable (upEmb : UEmb _ 𝕄) (bigSep Finset.univ fun i : Fin 16 => piece tab idx (gout tab idx) d (blockOf (Fin.cast nCore_zero c) i)))
  go q d c i := match q with
    | 0 => (inferInstance : BI.Storable (upEmb : UEmb _ 𝕄) (piece tab idx out d (blockOf (Fin.cast nCore_zero c) (Fin.cast nSub_zero i))))
  td q d c i := match q with
    | 0 => (inferInstance : BI.Storable (upEmb : UEmb _ 𝕄) (piece tab idx (gout tab idx) d (blockOf (Fin.cast nCore_zero c) (Fin.cast nSub_zero i))))

/-- Every index is below the table's length. -/
def InRange : Prop := ∀ (d : Dev nD) (j : S1024.Idx), (idx d j).toNat < 100000

/-! ## The subcore's run -/

variable [FloatOps F] [Named F]

section Tile

variable (d : Dev nD) (L : grid1.Coords)

abbrev cV (L : grid1.Coords) : Fin τ.nSC := (L 0).castLE hcore1
abbrev jV (L : grid1.Coords) : Fin τ.nSub := (L 1).castLE hsub1
theorem bound_core : grid1.bound 0 = 2 := rfl
theorem bound_sub : grid1.bound 1 = 16 := rfl
abbrev bL (L : grid1.Coords) : Fin 32 := blockOf (Fin.cast bound_core (L 0)) (Fin.cast bound_sub (L 1))

abbrev blkK (L : grid1.Coords) : Rect S1024 := Rect.unit (s := S1024) (k1_off1 L) S32.size (k1_off1_inb L)
/-- The subcore's block of the indices, of the result, and all of the table, as the subcore addresses them. -/
abbrev idxK (L : grid1.Coords) : Memref sig .scVector .hbm S32 .i32 := (idxV).slice (blkK L) (fun _ => rfl)
abbrev outK (L : grid1.Coords) : Memref sig .scVector .hbm S32 .f32 := (outV).slice (blkK L) (fun _ => rfl)
abbrev tabK : Memref sig .scVector .hbm S100000 .f32 := (tabV).slice (Rect.unit (s := S100000) ![0] S100000.size inb_S100000_S100000_0) (fun _ => rfl)

theorem blkK_eq : blkK L = blk (bL L) := by
  unfold blkK blk Rect.part Rect.block
  congr 1 <;> funext a
  · rw [k1_off1_eq]
    match a with
    | 0 =>
      show 64 * (L 1).val + 32 * (L 0).val = (blockOf (Fin.cast bound_core (L 0)) (Fin.cast bound_sub (L 1))).val * 32
      simp only [blockOf, Fin.val_cast]; omega
  · match a with
    | 0 => simp [Shape.partSize]

theorem set_idxK : (idxK L).view.set = blkSet (bL L) := by
  show ((View.whole (main_arg3_scv : Ref sig .scVector)).slice (blkK L)).set = _
  rw [View.set_slice, blkK_eq]; exact Finset.map_refl
theorem set_outK : (outK L).view.set = blkSet (bL L) := by
  show ((View.whole (main_v3_scv : Ref sig .scVector)).slice (blkK L)).set = _
  rw [View.set_slice, blkK_eq]; exact Finset.map_refl

theorem pts_idxK (f : Buf (Elt F) (idxLoc d)) :
    ((idxK L).view.loc (V d (cV L) (jV L)) ↦[(idxK L).view.set]{fullShare} f : sProp 𝕄) = idxLoc d ↦[blkSet (bL L)]{fullShare} f := by
  rw [set_idxK]
theorem pts_outK (f : Buf (Elt F) (outLoc d)) :
    ((outK L).view.loc (V d (cV L) (jV L)) ↦[(outK L).view.set]{fullShare} f : sProp 𝕄) = outLoc d ↦[blkSet (bL L)]{fullShare} f := by
  rw [set_outK]
theorem pts_tabK (q : PosShare TreeShare) (f : Buf (Elt F) (tabLoc d)) :
    ((tabK).view.loc (V d (cV L) (jV L)) ↦{q} f : sProp 𝕄) = tabLoc d ↦{q} f := rfl
theorem pts_lstV (f : Buf (Elt F) ((V d (cV L) (jV L)).loc cc1_scratch0)) :
    ((lstV).view.loc (V d (cV L) (jV L)) ↦{fullShare} f : sProp 𝕄) = (V d (cV L) (jV L)).loc cc1_scratch0 ↦{fullShare} f := rfl
theorem pts_rowV (f : Buf (Elt F) ((V d (cV L) (jV L)).loc cc1_scratch1)) :
    ((rowV).view.loc (V d (cV L) (jV L)) ↦{fullShare} f : sProp 𝕄) = (V d (cV L) (jV L)).loc cc1_scratch1 ↦{fullShare} f := rfl

abbrev cellA (d : Dev nD) (c : Fin τ.nSC) (i : Fin τ.nSub) : GSem nD τ sig := (V d c i, .dma cc1_scratch2.sem)
abbrev cellB (d : Dev nD) (c : Fin τ.nSC) (i : Fin τ.nSub) : GSem nD τ sig := (V d c i, .dma cc1_scoped0.sem)
abbrev cellC (d : Dev nD) (c : Fin τ.nSC) (i : Fin τ.nSub) : GSem nD τ sig := (V d c i, .dma cc1_scoped1.sem)

/-- The three semaphores of the call are among the subcore's own: they are them and the rest. -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc1_scratch2.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc1_scoped0.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Once the index copy has landed, the subcore's list holds its block of the index array. -/
theorem list_at (fs : Buf (Elt F) ((V d (cV L) (jV L)).loc cc1_scratch0)) (x : S32.Idx) :
    (lstV).view.read (Elt F) (View.write (Elt F) (lstV).view fs ((idxK L).view.read (Elt F) (idx d)) Finset.univ) x = idx d ((blkK L).emb x) := by
  rw [View.write_whole_univ]
  simp only [Memref.view_whole, View.read_whole]
  exact (View.read_apply _ _).trans (cast_eq _ _)

/-- Its words are in range. -/
theorem list_inb (hpre : InRange idx) (fs : Buf (Elt F) ((V d (cV L) (jV L)).loc cc1_scratch0)) :
    ∀ x, ((lstV).view.read (Elt F) (View.write (Elt F) (lstV).view fs ((idxK L).view.read (Elt F) (idx d)) Finset.univ) x).toNat
      < S100000.size gathers_S100000_S32.axis := by
  intro x; rw [list_at idx d L fs x]; exact hpre d _

/-- What the write-out leaves on the subcore's block is the gathered array there. -/
theorem out_at (hpre : InRange idx) (fs : Buf (Elt F) ((V d (cV L) (jV L)).loc cc1_scratch0)) (fr : Buf (Elt F) ((V d (cV L) (jV L)).loc cc1_scratch1))
    (hn : S32.numel = S32.size gathers_S100000_S32.axis') :
    ∀ j ∈ (outK L).view.set,
      (outK L).view.write (Elt F) (out d) ((rowV).view.read (Elt F) ((rowV).view.write (Elt F) fr
        (SparseCore.gatherPayload gathers_S100000_S32 ((tabK).view.read (Elt F) (tab d))
          (SparseCore.rows ((lstV).view.read (Elt F) (View.write (Elt F) (lstV).view fs ((idxK L).view.read (Elt F) (idx d)) Finset.univ)) hn
            (list_inb idx d L hpre fs))) Finset.univ)) Finset.univ j = gout tab idx d j := by
  intro j hj
  obtain ⟨x, -, rfl⟩ := Finset.mem_map.mp hj
  rw [View.write_emb_of_mem (h := Finset.mem_univ x), View.write_whole_univ]
  simp only [Memref.view_whole, View.read_whole]
  refine (cast_eq _ _).trans ?_
  unfold SparseCore.gatherPayload
  refine (View.read_apply _ _).trans ((cast_eq _ _).trans ?_)
  unfold gout gathered
  congr 1
  funext a
  match a with
  | 0 =>
    refine Fin.ext ?_
    show 0 + 1 * (Shape.Gathers.idx gathers_S100000_S32 _ x gathers_S100000_S32.axis).val = (idx d ((blkK L).emb x)).toNat % 100000
    rw [Shape.Gathers.idx_axis, Nat.mod_eq_of_lt (hpre d _), Nat.zero_add, Nat.one_mul]
    unfold SparseCore.rows
    refine (congrArg BitVec.toNat (list_at idx d L fs _)).trans ?_
    have hx : S32.rowMajor.symm ((x gathers_S100000_S32.axis').cast hn.symm) = x := by
      rw [Equiv.symm_apply_eq]
      exact Fin.ext (Shape.rowMajor_val_one x).symm
    exact congrArg (fun y => (idx d ((blkK L).emb y)).toNat) hx

set_option maxHeartbeats 4000000 in
/-- The task on vector subcore `(L 0, L 1)` of device `d`: given its piece it ends with its piece, the block of the
    result at the gathered entries, its scratch and semaphores as it found them. -/
theorem tile_body (hF : (K (F := F)).Facts) (hpre : InRange idx) (O : CellTallies nD τ sig (HIx 1)) (W : Waits sig (HIx 1)) (hO : ∀ g, O g none = 0) :
    iprop(levAts (K (F := F)).L (K (F := F)).lev ∗ emp ∗ piece tab idx out d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tabV (Memref.isWhole_whole _) idxV (Memref.isWhole_whole _) outV (Memref.isWhole_whole _)
            lstV (Memref.isWhole_whole _) rowV (Memref.isWhole_whole _) cc1_scratch2 cc1_scoped0 cc1_scoped1)
          fun _ => iprop(piece tab idx (gout tab idx) d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxK (F := F) d L _).symm) $$ Hi
  ihave Ho' := (Entails.of_eq (pts_outK (F := F) d L _).symm) $$ Ho
  ihave Hx' := (Entails.of_eq (pts_tabK (F := F) d L _ _).symm) $$ Hx
  ihave Hs' := (Entails.of_eq (pts_lstV (F := F) d L _).symm) $$ Hs
  ihave Hr' := (Entails.of_eq (pts_rowV (F := F) d L _).symm) $$ Hr
  sl_exec
  have hN : ∀ h : S100000.Gathers 0 S32, ∑ j, ((rowV).slice (S32.rowRect h.axis' j) (S32.stride_rowRect h.axis' j)).view.dmaCredit
      = (rowV).view.dmaCredit := by decide
  iapply (SparseCore.wp_gatherFromWhole countersEmb 𝒱₀ (V d (cV L) (jV L)) none (hg := gathers_S100000_S32) (default : HIx 1)
      (rowV).view.dmaCredit (hN _) (by decide) (list_inb idx d L hpre fs)) $$ [Hx' Hr' Hs' HsemA]
  · isplitl [Hx']; · iexact Hx'
    isplitl [Hr']; · iexact Hr'
    isplitl [Hs']; · iexact Hs'
    iexact HsemA
  iintro Hfl
  sl_exec
  iapply (Transfers.wp_waitLocalO countersEmb 𝒱₀ (V d (cV L) (jV L)) none (default : HIx 1) (rfl : (rowV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hx', Hs'⟩, HsemA, HO⟩
  sl_exec
  sl_step
  isplitl [Hi' Hx' Ho']
  · isplitl [Hi']; · iapply (Entails.of_eq (pts_idxK (F := F) d L _)); iexact Hi'
    isplitl [Hx']; · iexact Hx'
    iapply (Entails.of_eq ((pointsTo_congr (out_at tab idx out d L hpre fs fr rfl)).trans (pts_outK (F := F) d L _)))
    iapply (Entails.of_eq (congrArg (fun f : Buf (Elt F) (outLoc d) => ((outK L).view.loc (V d (cV L) (jV L)) ↦[(outK L).view.set]{fullShare} f : sProp 𝕄))
      (View.write_univ_eq_writes_whole (outK L).view (out d) [] _).symm))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call's obligations -/

/-- The coordinates of the subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tabV (Memref.isWhole_whole _) idxV (Memref.isWhole_whole _) outV (Memref.isWhole_whole _)
          lstV (Memref.isWhole_whole _) rowV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch theorem asks of the subcores' program. -/
theorem tileObl (hF : (K (F := F)).Facts) (hpre : InRange idx) : (K (F := F)).TileObl (D (F := F)) 𝒱 (P tab idx out) v₀ 0 := by
  intro d c i O W hO _ _
  simp only [show (P tab idx out).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx out d (coordsV ⟨_, hci.1⟩ ⟨_, hci.2⟩) hF hpre O W hO).trans (wp_mono frame _ _ fun _ => obl_post)

end Tile

/-! ## A SparseCore's operands are its subcores' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P tab idx out) 0 := by
  intro d c
  show (bigSep Finset.univ fun i : Fin 16 => piece tab idx out d (blockOf (Fin.cast nCore_zero c) i)) ⊢ |={Set.univ}=> iprop(
      (bigSep Finset.univ fun i : Fin ((K (F := F)).nSub 0) => piece tab idx out d (blockOf (Fin.cast nCore_zero c) (Fin.cast nSub_zero i)))
      ∗ ((bigSep Finset.univ fun i : Fin ((K (F := F)).nSub 0) => piece tab idx (gout tab idx) d (blockOf (Fin.cast nCore_zero c) (Fin.cast nSub_zero i)))
          -∗ bigSep Finset.univ fun i : Fin 16 => piece tab idx (gout tab idx) d (blockOf (Fin.cast nCore_zero c) i)))
  rw [bigSep_tasks (F := F) (fun i => piece tab idx out d (blockOf (Fin.cast nCore_zero c) i)),
    bigSep_tasks (F := F) (fun i => piece tab idx (gout tab idx) d (blockOf (Fin.cast nCore_zero c) i))]
  iintro H; imodintro
  isplitl [H]; · iexact H
  iintro H; iexact H

/-- The pieces of the two SparseCores together are the three operands whole. -/
theorem pieces_eq (g : (d : Dev nD) → Buf (Elt F) (outLoc d)) (d : Dev nD) :
    (bigSep Finset.univ fun c : Fin 2 => bigSep Finset.univ fun i : Fin 16 => piece tab idx g d (blockOf c i))
      = iprop((idxLoc d ↦{fullShare} idx d) ∗ (tabLoc d ↦{fullShare} tab d) ∗ (outLoc d ↦{fullShare} g d)) := by
  rw [← bigSep_univ_prod (fun p : Fin 2 × Fin 16 => piece tab idx g d (blockOf p.1 p.2))]
  refine (bigSep_univ_equiv blockEquiv (fun b : Fin 32 => piece tab idx g d b)).symm.trans ?_
  unfold piece
  rw [bigSep_sep', bigSep_sep', ← idx_blocks, ← tab_shares, ← out_blocks]

theorem st0_eq (d : Dev nD) : (bigSep Finset.univ fun c : Fin ((K (F := F)).nCore 0) => (P tab idx out).st 0 d c)
    = iprop((idxLoc d ↦{fullShare} idx d) ∗ (tabLoc d ↦{fullShare} tab d) ∗ (outLoc d ↦{fullShare} out d)) := by
  rw [← pieces_eq]
  exact bigSep_congr fun _ _ => rfl
theorem dn0_eq (d : Dev nD) : (bigSep Finset.univ fun c : Fin ((K (F := F)).nCore 0) => (P tab idx out).dn 0 d c)
    = iprop((idxLoc d ↦{fullShare} idx d) ∗ (tabLoc d ↦{fullShare} tab d) ∗ (outLoc d ↦{fullShare} gout tab idx d)) := by
  rw [← pieces_eq tab idx (gout tab idx)]
  exact bigSep_congr fun _ _ => rfl

end Payload

end Cert.KernelIdeal.Run

end
-- ==== Proof.KernelIdeal.Labelize.lean ====
/-
  The label kernel's region: the first TensorCore call of @main, which reads the transposed one-hot table and writes
  every table row's label as one row vector. The body run by the executor, its proof data, and the region entered from
  any contents of the unscoped buffers. The TensorCore owes the SparseCore call's start signals while it is inside the
  region, so the region is stated over any of its states between calls.
-/
module

public import proofs.«01_k».proof.Proof.KernelIdeal.Base
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## What both regions share -/

/-- A TensorCore memref's buffer: its contents, and it held whole at given contents. -/
abbrev Bf (c : Dev nD) {sp : Space} {s : Shape} {e : EltTy} (M : Memref sig .tc sp s e) : Type := Buf (Elt F) (M.view.loc (c : Thread nD τ))
abbrev held1 (c : Dev nD) {sp : Space} {s : Shape} {e : EltTy} (M : Memref sig .tc sp s e) (f : Bf (F := F) c M) : sProp 𝕄 :=
  M.view.loc (c : Thread nD τ) ↦{fullShare} f

/-- Contents of every TensorCore buffer. -/
abbrev Contents (F : FTy → Type) : Type := (c : Dev nD) → (b : Ref sig .tc) → Buf (Elt F) ((c : Thread nD τ).loc b)

/-- The tallies the TensorCore owes between calls are never at the index its own waits record. -/
theorem Otc_none (d : Dev nD) (n : ℕ) (g : GSem nD τ sig) : (K (F := F)).Otc (N := 1) d n g none = 0 := by
  by_contra h
  have h1 := SparseCore.Cfg.lev_of_Otc_pos (K := K (F := F)) (Nat.pos_of_ne_zero h)
  rw [SparseCore.Cfg.lev_none] at h1
  omega

/-- The recorded waits the state before call `n` allows. -/
def allowed (F : FTy → Type) (d : Dev nD) (n : ℕ) : Set (SemLoc sig × HIx 1) :=
  {p | (K (F := F)).lev ((SparseCore.T d : Thread nD τ), p.1) p.2 ≤ 8 * n}

/-- What the TensorCore owes before call `n`, its recorded waits at or below that call's level. -/
def owesTc (d : Dev nD) (n : ℕ) : sProp 𝕄 :=
  iprop(∃ W, ⌜(K (F := F)).WBelow (SparseCore.T d) W (8 * n)⌝ ∗ owes (SparseCore.T d) ((K (F := F)).Otc d n) W)

/-- Proof data of a pipeline that a region does not run. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)

/-- Entering a pipeline with the TensorCore's debts: its recorded waits are the ones allowed. -/
theorem owesAt_of_owesTc {cfg : Cfg sig Λ₀} (c : Dev nD) (n : ℕ) (dat : Dat τ (Elt F) (HIx 1) ℕ UU ℕ cfg c) (t : Fin (cfg.N + 1))
    (hO : dat.owed t = (K (F := F)).Otc c n) (hR : dat.recorded t = allowed F c n) :
    owesTc (F := F) c n ⊢ dat.owesAt none t := by
  unfold owesTc Pipeline.Dat.owesAt Pipeline.owesWithin
  rw [hO]
  iintro ⟨%W, %hW, HO⟩
  iexists W
  isplitr
  · ipureintro
    intro p hp
    refine Or.inl ?_
    rw [hR]
    exact hW p hp
  · iexact HO

/-- Leaving it with them: the pipeline's own waits are recorded at the lowest level. -/
theorem owesTc_of_owesAt {cfg : Cfg sig Λ₀} (c : Dev nD) (n : ℕ) (dat : Dat τ (Elt F) (HIx 1) ℕ UU ℕ cfg c) (t : Fin (cfg.N + 1))
    (hO : dat.owed t = (K (F := F)).Otc c n) (hR : dat.recorded t = allowed F c n) :
    dat.owesAt none t ⊢ owesTc (F := F) c n := by
  unfold owesTc Pipeline.Dat.owesAt Pipeline.owesWithin
  rw [hO]
  iintro ⟨%W, %hW, HO⟩
  iexists W
  isplitr
  · ipureintro
    intro p hp
    rcases hW hp with h | h
    · rw [hR] at h; exact h
    · obtain ⟨w, s, rfl⟩ := h
      exact Nat.zero_le _
  · iexact HO

/-- One store of a whole buffer, at the zero offset, leaves exactly what it stored. -/
theorem whole_store (b : Ref sig .tc) (f : b.ty.Contents (Elt F)) {off : Fin b.ty.1.rank → ℕ} (h : ∀ a, off a = 0)
    (inb : ∀ a, off a + b.ty.1.size a ≤ b.ty.1.size a) (w : b.ty.1.Idx → Elt F b.ty.2) :
    (View.whole b).writes (Elt F) f [⟨Rect.unit off b.ty.1.size inb, w⟩] = w := by
  funext y
  have hr := View.read_writes_cons_emb (v := View.whole b) (f := f) (Rect.unit off b.ty.1.size inb) w [] y
  have hy : (Rect.unit off b.ty.1.size inb).emb y = y := by
    funext a
    exact Fin.ext (by simp [Rect.unit, Rect.emb, h a])
  rw [hy] at hr
  exact hr

/-- A load of a whole buffer, at the zero offset, reads its contents. -/
theorem whole_load (b : Ref sig .tc) (f : b.ty.Contents (Elt F)) {off : Fin b.ty.1.rank → ℕ} (h : ∀ a, off a = 0)
    (inb : ∀ a, off a + b.ty.1.size a ≤ b.ty.1.size a) :
    View.readAt (Elt F) (View.whole b) (Rect.unit off b.ty.1.size inb).toLoadRect f = f := by
  funext y
  have hy : (Rect.unit off b.ty.1.size inb).emb y = y := by
    funext a
    exact Fin.ext (by simp [Rect.unit, Rect.emb, h a])
  exact congrArg f hy

namespace Lab

/-- The body, from both staging buffers held whole: the input's is unchanged, the result's holds the labels of the
    input's columns. -/
theorem body_run (c : Dev nD) (f0 : Bf (F := F) c (stage0_0 0)) (f1 : Bf (F := F) c (stage0_1 0)) (E : Set ℕ) (Q : PUnit → sProp 𝕄) :
    iprop(held1 c (stage0_0 0) f0 ∗ held1 c (stage0_1 0) f1 ∗ (iprop(held1 c (stage0_0 0) f0 ∗ held1 c (stage0_1 0) (k0_pay1 (F := F) f0)) -∗ Q ⟨⟩))
      ⊢ wp frame (wpE (defs₀ (F := F)) Variants.none c none) E (cc0__labelize_kernel (stage0_0 0) (hstage0_0 0) (stage0_1 0) (hstage0_1 0)) Q := by
  iintro ⟨H0, H1, Hk⟩
  sl_exec!
  sl_step
  iapply Hk
  isplitl [H0]; · iexact H0
  iapply (Entails.of_eq ?_) $$ H1
  refine congrArg (fun w => held1 (F := F) c (stage0_1 0) w) ?_
  refine (whole_store (F := F) cc0_stg1_0 _ (fun a => by fin_cases a <;> rfl) _ _).trans ?_
  refine congrArg (k0_pay1 (F := F)) ?_
  exact whole_load (F := F) cc0_stg0_0 _ (fun a => by fin_cases a <;> rfl) _

variable (V : Contents F) (n : ℕ)

/-- The input's block as the fetch stages it. -/
abbrev staged (c : Dev nD) : (cfg0.win 0).block.Idx → Elt F (cfg0.win 0).elt := ((cfg0.win 0).blk t0_0).view.read (Elt F) (V c main_v0)

/-- The block is the whole array. -/
theorem staged_eq (c : Dev nD) : staged V c = V c main_v0 := by
  funext j
  show V c main_v0 ((win0_0.blk t0_0).view.emb j) = V c main_v0 j
  refine congrArg (V c main_v0) (funext fun a => Fin.ext ?_)
  fin_cases a
  · blk_simp
    rw [show win0_0.index t0_0 0 = 0 by decide +kernel, Nat.zero_mul, Nat.zero_add]
  · blk_simp
    rw [show win0_0.index t0_0 1 = 0 by decide +kernel, Nat.zero_mul, Nat.zero_add]

/-- The scoped buffers that this pipeline does not stage. -/
abbrev rest (c : Dev nD) : sProp 𝕄 := Pipeline.scopedRest (Ix := HIx 1) (Name := ℕ) (U := UU) (Lvl := ℕ) (Val := Elt F) spec0 c

/-- The region's proof data: after the body the input's buffer is as fetched and the result's holds the labels. -/
def dat (c : Dev nD) : Dat τ (Elt F) (HIx 1) ℕ UU ℕ cfg0 c where
  A w := V c (Pipeline.arrRef spec0 w)
  after w _ := match w with
    | ⟨0, _⟩ => staged V c
    | ⟨1, _⟩ => k0_pay1 (F := F) (staged V c)
  Φ _ := rest c
  q _ := fullShare
  owed _ := (K (F := F)).Otc c n
  recorded _ := allowed F c n

/-- The proof data of both pipelines, this one's and anything for the other. -/
def dats : (p : Fin 2) → (c : Dev nD) → Dat τ (Elt F) (HIx 1) ℕ UU ℕ (Pipeline.pin (pcfgs (F := F)) adm p) c
  | ⟨0, _⟩ => fun c => dat V n c
  | ⟨1, _⟩ => fun c => idleDat c

/-- When the body runs the input's buffer holds the fetched block. -/
theorem before_input (c : Dev nD) (d : (cfg0.win 0).block.Idx → Elt F (cfg0.win 0).elt) : (dat V n c).before 0 t0_0 d = staged V c := by
  unfold Dat.before; rw [if_pos (by decide)]; rfl

/-- The body's obligation at the one grid point. -/
theorem body_obligation (c : Dev nD) : BodyObligation (dat V n c) (defs₀ (F := F)) 𝒱₀ none Set.univ := fun t => by
  obtain rfl := fin_N0 t
  rw [bigSep_W0, bigSep_W0]
  simp only [owns_whole_eq]
  rw [show (dat V n c).Φ t0_0.castSucc = rest c from rfl, show (dat V n c).Φ t0_0.succ = rest c from rfl,
    show (dat V n c).owesAt none t0_0.succ = (dat V n c).owesAt none t0_0.castSucc from rfl]
  iintro ⟨HΦ, Howes, ⟨%d0, %f0, %hf0, H0⟩, ⟨%d1, %f1, -, H1⟩⟩
  rw [before_input] at hf0
  subst hf0
  iapply (body_run c (staged V c) f1 Set.univ _)
  isplitl [H0]; · iexact H0
  isplitl [H1]; · iexact H1
  iintro ⟨H0, H1⟩
  isplitl [HΦ]; · iexact HΦ
  isplitl [Howes]; · iexact Howes
  isplitl [H0]
  · iexists _; isplitr; swap; (· iexact H0); ipureintro; dsimp only [dat]
  iexists _; isplitr; swap; (· iexact H1); ipureintro; dsimp only [dat]

/-- The result's array when the region ends: the labels of the input's columns. -/
theorem arr_result (c : Dev nD) : (dat V n c).arrAt 1 cfg0.N = k0_pay1 (F := F) (V c main_v0) := by
  refine (dat V n c).arrAt_eq_of_after_last 1 t0_0 (by decide +kernel) _ fun j => ?_
  rw [← staged_eq V c]
  blk_simp
  rfl

variable (V' : Contents F)

set_option backward.isDefEq.respectTransparency.types false in
/-- The region, entered with the unscoped buffers at `V` and left with them at any `V'` that differs from `V` at the
    result alone, where it has the labels. -/
def reg (R : Dev nD → sProp 𝕄) (hout : ∀ c, V' c main_v1 = k0_pay1 (F := F) (V c main_v0)) (hne : ∀ c (b : Ref sig .tc), b ≠ main_v1 → V' c b = V c b) :
    Pipeline.RegionSeg (pcfgs (F := F)) adm (dats adm V n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V n c).loose
  hwaits c := Pipeline.cellsWaits_intro _ _ _ 0 c fun w s t => (K (F := F)).mayWait_none _ (Otc_none c n)
  pre c := iprop(unscopedBufs c (V c) ∗ R c ∗ owesTc c n)
  post c := iprop(unscopedBufs c (V' c) ∗ R c ∗ owesTc c n)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (dats adm V n) launch0.win launch0.arr_whole c
      ((dats adm V n 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owesTc c n (dat V n c) 0 rfl rfl); iexact HO
    isplitr; · iempintro
    isplitl [Hrest] <;> iassumption
  hin c := by
    rw [show (dats adm V n 0 c).Φ 0 = rest c from rfl]
    iintro ⟨-, -, Hr⟩; iexact Hr
  hout c := by
    rw [Pipeline.ownSems0_none, show (dats adm V n 0 c).Φ (Fin.last _) = rest c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (dats adm V n) ((dats adm V n 0 c).share_full fun _ => rfl) (V c) (V' c) ((dats adm V n 0 c).arrAt · cfg0.N)
      (fun w => by
        fin_cases w
        · exact ((dats adm V n 0 c).arrAt_in 0 rfl _).trans (hne c main_v0 (by decide)).symm
        · exact (arr_result V n c).trans (hout c).symm)
      (fun b hb => hne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    iapply (owesTc_of_owesAt c n (dat V n c) (Fin.last _) rfl rfl); iexact HO

end Lab

end Cert.KernelIdeal.Run

end
-- ==== Proof.KernelIdeal.Loss.lean ====
/-
  The loss kernel's region: the second TensorCore call of @main, which reads the batch, its labels and the gathered
  labels, and writes the three losses. Its grid has one point; its first two windows are on one array. The body run by
  the executor, its proof data, and the region entered from any contents of the unscoped buffers.
-/
module

public import proofs.«01_k».proof.Proof.KernelIdeal.Labelize
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-- What the loss kernel writes: from the batch (read twice), the batch's one-hot labels, the gathered labels, and the
    indices as a column and as a row. The two sums in scratch start at zero. -/
def lossRow (x x' : Vec F S1024x64 .f32) (oh : Vec F S1024x100 .f32) (lab : Vec F S1x1024 .f32) (col : Vec F S1024x1 .f32) (row : Vec F S1x1024 .f32) :
    Vec F S1x128 .f32 :=
  k2_pay4 (F := F) x
    (k2_pay2 (F := F) 0#32 (k2_pay5 (F := F) x x' oh lab) (k2_pay6 (F := F) col row) (Scalar.ofBits .f32 0x00000000#32))
    (k2_pay3 (F := F) 0#32 (k2_pay6 (F := F) col row) (Scalar.ofBits .f32 0x00000000#32))

namespace Loss

/-- The grid's one point has coordinate zero, -/
theorem coord_zero : BitVec.ofNat 32 ((grid2.coords t2_0) 0).val = 0#32 := by decide +kernel
/-- so both conditions on it hold. -/
theorem cond_first : Scalar.cmpi .ne (Scalar.extui (Scalar.cmpi .eq (BitVec.ofNat 32 ((grid2.coords t2_0) 0).val) 0#32) : BitVec 32) 0#32 = 1#1 := by decide +kernel
theorem cond_last : k2_cond2 (grid2.coords t2_0) = 1#1 := by decide +kernel

/-- The body, from its seven staging buffers and the scratch held whole. -/
theorem body_run (c : Dev nD) (f0 : Bf (F := F) c (stage2_0 0)) (f1 : Bf (F := F) c (stage2_1 0)) (f2 : Bf (F := F) c (stage2_2 0)) (f3 : Bf (F := F) c (stage2_3 0))
    (f4 : Bf (F := F) c (stage2_4 0)) (f5 : Bf (F := F) c (stage2_5 0)) (f6 : Bf (F := F) c (stage2_6 0)) (fs : Bf (F := F) c (Memref.whole cc2_scratch0)) (E : Set ℕ) (Q : PUnit → sProp 𝕄) :
    iprop(held1 c (stage2_0 0) f0 ∗ held1 c (stage2_1 0) f1 ∗ held1 c (stage2_2 0) f2 ∗ held1 c (stage2_3 0) f3 ∗ held1 c (stage2_4 0) f4 ∗ held1 c (stage2_5 0) f5
        ∗ held1 c (stage2_6 0) f6 ∗ held1 c (Memref.whole cc2_scratch0) fs
        ∗ (iprop(held1 c (stage2_0 0) f0 ∗ held1 c (stage2_1 0) f1 ∗ held1 c (stage2_2 0) f2 ∗ held1 c (stage2_3 0) f3 ∗ held1 c (stage2_4 0) f4 ∗ held1 c (stage2_5 0) f5
            ∗ held1 c (stage2_6 0) (lossRow (F := F) f0 f1 f2 f3 f4 f5) ∗ (∃ g, held1 c (Memref.whole cc2_scratch0) g)) -∗ Q ⟨⟩))
      ⊢ wp frame (wpE (defs₀ (F := F)) Variants.none c none) E
          (cc2__loss_kernel (grid2.coords t2_0) (stage2_0 0) (hstage2_0 0) (stage2_1 0) (hstage2_1 0) (stage2_2 0) (hstage2_2 0) (stage2_3 0) (hstage2_3 0)
            (stage2_4 0) (hstage2_4 0) (stage2_5 0) (hstage2_5 0) (stage2_6 0) (hstage2_6 0) (Memref.whole cc2_scratch0) (Memref.isWhole_whole _)) Q := by
  rw [cc2__loss_kernel_eq_skeleton]
  have h1 := cond_first
  have h2 := cond_last
  iintro ⟨H0, H1, H2, H3, H4, H5, H6, HS, Hk⟩
  unfold cc2__loss_kernel_skel
  rw [k2_part1_eq_skeleton]
  unfold k2_part1_skel
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iapply (Entails.of_eq ?_) $$ H6
    refine congrArg (fun w => held1 (F := F) c (stage2_6 0) w) ?_
    refine (whole_store (F := F) cc2_stg6_0 _ (fun a => by fin_cases a <;> rfl) _ _).trans ?_
    unfold lossRow
    unfold body_run.sl.r_2 body_run.sl.r_3
    have e0 : View.readAt (Elt F) (stage2_0 0).view (Rect.unit (s := S1024x64) ![0, 0] S1024x64.size inb_S1024x64_S1024x64_0_0).toLoadRect f0 = f0 :=
      whole_load (F := F) cc2_stg0_0 f0 (fun a => by fin_cases a <;> rfl) _
    have e1 : View.readAt (Elt F) (stage2_1 0).view (Rect.unit (s := S1024x64) ![0, 0] S1024x64.size inb_S1024x64_S1024x64_0_0).toLoadRect f1 = f1 :=
      whole_load (F := F) cc2_stg1_0 f1 (fun a => by fin_cases a <;> rfl) _
    have e2 : View.readAt (Elt F) (stage2_2 0).view (Rect.unit (s := S1024x100) ![0, 0] S1024x100.size inb_S1024x100_S1024x100_0_0).toLoadRect f2 = f2 :=
      whole_load (F := F) cc2_stg2_0 f2 (fun a => by fin_cases a <;> rfl) _
    have e3 : View.readAt (Elt F) (stage2_3 0).view (Rect.unit (s := S1x1024) ![0, 0] S1x1024.size inb_S1x1024_S1x1024_0_0).toLoadRect f3 = f3 :=
      whole_load (F := F) cc2_stg3_0 f3 (fun a => by fin_cases a <;> rfl) _
    have e4 : View.readAt (Elt F) (stage2_4 0).view (Rect.unit (s := S1024x1) ![0, 0] S1024x1.size inb_S1024x1_S1024x1_0_0).toLoadRect f4 = f4 :=
      whole_load (F := F) cc2_stg4_0 f4 (fun a => by fin_cases a <;> rfl) _
    have e5 : View.readAt (Elt F) (stage2_5 0).view (Rect.unit (s := S1x1024) ![0, 0] S1x1024.size inb_S1x1024_S1x1024_0_0).toLoadRect f5 = f5 :=
      whole_load (F := F) cc2_stg5_0 f5 (fun a => by fin_cases a <;> rfl) _
    rw [e0, e1, e2, e3, e4, e5]
    rfl
  iexists _
  iexact HS

variable (V : Contents F) (n : ℕ) (adm : (p : Fin 2) → (pcfgs (F := F) p).Adm)

/-- Input 0's block as the fetch stages it, which is its whole array. -/
abbrev staged0 (c : Dev nD) : (cfg2.win 0).block.Idx → Elt F (cfg2.win 0).elt := ((cfg2.win 0).blk t2_0).view.read (Elt F) (V c main_arg0)
theorem staged0_eq (c : Dev nD) : staged0 V c = V c main_arg0 := by
  funext j
  show V c main_arg0 ((win2_0.blk t2_0).view.emb j) = V c main_arg0 j
  refine congrArg (V c main_arg0) (funext fun a => Fin.ext ?_)
  fin_cases a
  · blk_simp
    rw [show win2_0.index t2_0 0 = 0 by decide +kernel]
    try rw [Nat.zero_mul, Nat.zero_add]
  · blk_simp
    rw [show win2_0.index t2_0 1 = 0 by decide +kernel]
    try rw [Nat.zero_mul, Nat.zero_add]

/-- Input 1's block as the fetch stages it, which is its whole array. -/
abbrev staged1 (c : Dev nD) : (cfg2.win 1).block.Idx → Elt F (cfg2.win 1).elt := ((cfg2.win 1).blk t2_0).view.read (Elt F) (V c main_arg0)
theorem staged1_eq (c : Dev nD) : staged1 V c = V c main_arg0 := by
  funext j
  show V c main_arg0 ((win2_1.blk t2_0).view.emb j) = V c main_arg0 j
  refine congrArg (V c main_arg0) (funext fun a => Fin.ext ?_)
  fin_cases a
  · blk_simp
    rw [show win2_1.index t2_0 0 = 0 by decide +kernel]
    try rw [Nat.zero_mul, Nat.zero_add]
  · blk_simp
    rw [show win2_1.index t2_0 1 = 0 by decide +kernel]
    try rw [Nat.zero_mul, Nat.zero_add]

/-- Input 2's block as the fetch stages it, which is its whole array. -/
abbrev staged2 (c : Dev nD) : (cfg2.win 2).block.Idx → Elt F (cfg2.win 2).elt := ((cfg2.win 2).blk t2_0).view.read (Elt F) (V c main_arg2)
theorem staged2_eq (c : Dev nD) : staged2 V c = V c main_arg2 := by
  funext j
  show V c main_arg2 ((win2_2.blk t2_0).view.emb j) = V c main_arg2 j
  refine congrArg (V c main_arg2) (funext fun a => Fin.ext ?_)
  fin_cases a
  · blk_simp
    rw [show win2_2.index t2_0 0 = 0 by decide +kernel]
    try rw [Nat.zero_mul, Nat.zero_add]
  · blk_simp
    rw [show win2_2.index t2_0 1 = 0 by decide +kernel]
    try rw [Nat.zero_mul, Nat.zero_add]

/-- Input 3's block as the fetch stages it, which is its whole array. -/
abbrev staged3 (c : Dev nD) : (cfg2.win 3).block.Idx → Elt F (cfg2.win 3).elt := ((cfg2.win 3).blk t2_0).view.read (Elt F) (V c main_v5)
theorem staged3_eq (c : Dev nD) : staged3 V c = V c main_v5 := by
  funext j
  show V c main_v5 ((win2_3.blk t2_0).view.emb j) = V c main_v5 j
  refine congrArg (V c main_v5) (funext fun a => Fin.ext ?_)
  fin_cases a
  · blk_simp
    rw [show win2_3.index t2_0 0 = 0 by decide +kernel]
    try rw [Nat.zero_mul, Nat.zero_add]
  · blk_simp
    rw [show win2_3.index t2_0 1 = 0 by decide +kernel]
    try rw [Nat.zero_mul, Nat.zero_add]

/-- Input 4's block as the fetch stages it, which is its whole array. -/
abbrev staged4 (c : Dev nD) : (cfg2.win 4).block.Idx → Elt F (cfg2.win 4).elt := ((cfg2.win 4).blk t2_0).view.read (Elt F) (V c main_v6)
theorem staged4_eq (c : Dev nD) : staged4 V c = V c main_v6 := by
  funext j
  show V c main_v6 ((win2_4.blk t2_0).view.emb j) = V c main_v6 j
  refine congrArg (V c main_v6) (funext fun a => Fin.ext ?_)
  fin_cases a
  · blk_simp
    rw [show win2_4.index t2_0 0 = 0 by decide +kernel]
    try rw [Nat.zero_mul, Nat.zero_add]
  · blk_simp
    rw [show win2_4.index t2_0 1 = 0 by decide +kernel]
    try rw [Nat.zero_mul, Nat.zero_add]

/-- Input 5's block as the fetch stages it, which is its whole array. -/
abbrev staged5 (c : Dev nD) : (cfg2.win 5).block.Idx → Elt F (cfg2.win 5).elt := ((cfg2.win 5).blk t2_0).view.read (Elt F) (V c main_v7)
theorem staged5_eq (c : Dev nD) : staged5 V c = V c main_v7 := by
  funext j
  show V c main_v7 ((win2_5.blk t2_0).view.emb j) = V c main_v7 j
  refine congrArg (V c main_v7) (funext fun a => Fin.ext ?_)
  fin_cases a
  · blk_simp
    rw [show win2_5.index t2_0 0 = 0 by decide +kernel]
    try rw [Nat.zero_mul, Nat.zero_add]
  · blk_simp
    rw [show win2_5.index t2_0 1 = 0 by decide +kernel]
    try rw [Nat.zero_mul, Nat.zero_add]

/-- The scoped buffers that this pipeline does not stage: the scratch among them. -/
abbrev rest (c : Dev nD) : sProp 𝕄 := Pipeline.scopedRest (Ix := HIx 1) (Name := ℕ) (U := UU) (Lvl := ℕ) (Val := Elt F) spec2 c

/-- What the body stores, from the staged blocks. -/
abbrev out (c : Dev nD) : Vec F S1x128 .f32 := lossRow (F := F) (staged0 V c) (staged1 V c) (staged2 V c) (staged3 V c) (staged4 V c) (staged5 V c)

/-- The region's proof data: each input holds its share of its array, after the body the inputs' buffers are as fetched
    and the result's holds the losses. -/
def dat (c : Dev nD) : Dat τ (Elt F) (HIx 1) ℕ UU ℕ cfg2 c where
  A w := V c (Pipeline.arrRef spec2 w)
  after w _ := match w with
    | ⟨0, _⟩ => staged0 V c
    | ⟨1, _⟩ => staged1 V c
    | ⟨2, _⟩ => staged2 V c
    | ⟨3, _⟩ => staged3 V c
    | ⟨4, _⟩ => staged4 V c
    | ⟨5, _⟩ => staged5 V c
    | ⟨6, _⟩ => out V c
  Φ _ := rest c
  q w := Pipeline.shareOf spec2 w
  owed _ := (K (F := F)).Otc c n
  recorded _ := allowed F c n

/-- The proof data of both pipelines, this one's and anything for the other. -/
def dats : (p : Fin 2) → (c : Dev nD) → Dat τ (Elt F) (HIx 1) ℕ UU ℕ (Pipeline.pin (pcfgs (F := F)) adm p) c
  | ⟨0, _⟩ => fun c => idleDat c
  | ⟨1, _⟩ => fun c => dat V n c

/-! When the body runs each input's buffer holds the fetched block. -/

theorem before0 (c : Dev nD) (d : (cfg2.win 0).block.Idx → Elt F (cfg2.win 0).elt) : (dat V n c).before 0 t2_0 d = staged0 V c := by
  unfold Dat.before; rw [if_pos (by decide +kernel)]; rfl
theorem before1 (c : Dev nD) (d : (cfg2.win 1).block.Idx → Elt F (cfg2.win 1).elt) : (dat V n c).before 1 t2_0 d = staged1 V c := by
  unfold Dat.before; rw [if_pos (by decide +kernel)]; rfl
theorem before2 (c : Dev nD) (d : (cfg2.win 2).block.Idx → Elt F (cfg2.win 2).elt) : (dat V n c).before 2 t2_0 d = staged2 V c := by
  unfold Dat.before; rw [if_pos (by decide +kernel)]; rfl
theorem before3 (c : Dev nD) (d : (cfg2.win 3).block.Idx → Elt F (cfg2.win 3).elt) : (dat V n c).before 3 t2_0 d = staged3 V c := by
  unfold Dat.before; rw [if_pos (by decide +kernel)]; rfl
theorem before4 (c : Dev nD) (d : (cfg2.win 4).block.Idx → Elt F (cfg2.win 4).elt) : (dat V n c).before 4 t2_0 d = staged4 V c := by
  unfold Dat.before; rw [if_pos (by decide +kernel)]; rfl
theorem before5 (c : Dev nD) (d : (cfg2.win 5).block.Idx → Elt F (cfg2.win 5).elt) : (dat V n c).before 5 t2_0 d = staged5 V c := by
  unfold Dat.before; rw [if_pos (by decide +kernel)]; rfl

/-- The body's obligation at the one grid point. -/
theorem body_obligation (c : Dev nD) : BodyObligation (dat V n c) (defs₀ (F := F)) 𝒱₀ none Set.univ := fun t => by
  obtain rfl := fin_N2 t
  rw [bigSep_W2, bigSep_W2]
  have hsl : cfg2.slots t2_0 = fun w => ⟨0, by fin_cases w <;> decide⟩ := by funext w; fin_cases w <;> exact Subsingleton.elim (α := Fin 1) _ _
  rw [hsl]
  have hi0 : cfg2.idle 0 (cfg2.grid.coords t2_0) = false := rfl
  have hi1 : cfg2.idle 1 (cfg2.grid.coords t2_0) = false := rfl
  have hi2 : cfg2.idle 2 (cfg2.grid.coords t2_0) = false := rfl
  have hi3 : cfg2.idle 3 (cfg2.grid.coords t2_0) = false := rfl
  have hi4 : cfg2.idle 4 (cfg2.grid.coords t2_0) = false := rfl
  have hi5 : cfg2.idle 5 (cfg2.grid.coords t2_0) = false := rfl
  have hi6 : cfg2.idle 6 (cfg2.grid.coords t2_0) = false := by
    show (!(k2_cond2 (grid2.coords t2_0) == 1#1)) = false
    rw [cond_last]; rfl
  have hs0 : (cfg2.win 0).stage ⟨0, by decide⟩ = Memref.whole cc2_stg0_0 := rfl
  have hs1 : (cfg2.win 1).stage ⟨0, by decide⟩ = Memref.whole cc2_stg1_0 := rfl
  have hs2 : (cfg2.win 2).stage ⟨0, by decide⟩ = Memref.whole cc2_stg2_0 := rfl
  have hs3 : (cfg2.win 3).stage ⟨0, by decide⟩ = Memref.whole cc2_stg3_0 := rfl
  have hs4 : (cfg2.win 4).stage ⟨0, by decide⟩ = Memref.whole cc2_stg4_0 := rfl
  have hs5 : (cfg2.win 5).stage ⟨0, by decide⟩ = Memref.whole cc2_stg5_0 := rfl
  have hs6 : (cfg2.win 6).stage ⟨0, by decide⟩ = Memref.whole cc2_stg6_0 := rfl
  rw [hi6]
  simp only [hi0, hi1, hi2, hi3, hi4, hi5, hs0, hs1, hs2, hs3, hs4, hs5, hs6, owns_whole_eq]
  rw [show (dat V n c).Φ t2_0.castSucc = rest c from rfl, show (dat V n c).Φ t2_0.succ = rest c from rfl,
    show (dat V n c).owesAt none t2_0.succ = (dat V n c).owesAt none t2_0.castSucc from rfl]
  rw [show rest c = _ from scopedRest2_eq c]
  iintro ⟨⟨Ha, Hb, ⟨%fs, HS⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  rw [before0] at hf0; subst hf0
  rw [before1] at hf1; subst hf1
  rw [before2] at hf2; subst hf2
  rw [before3] at hf3; subst hf3
  rw [before4] at hf4; subst hf4
  rw [before5] at hf5; subst hf5
  iapply (body_run c (staged0 V c) (staged1 V c) (staged2 V c) (staged3 V c) (staged4 V c) (staged5 V c) f6 fs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [Ha Hb HS]
  · isplitl [Ha]; · iexact Ha
    isplitl [Hb]; · iexact Hb
    iexact HS
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  iexists _; isplitr; swap; (· iexact H6); ipureintro; dsimp only [dat]

/-- The result's array when the region ends: the losses of the arrays it was entered with. -/
theorem arr_result (c : Dev nD) : (dat V n c).arrAt 6 cfg2.N = lossRow (F := F) (V c main_arg0) (V c main_arg0) (V c main_arg2) (V c main_v5) (V c main_v6) (V c main_v7) := by
  refine (dat V n c).arrAt_eq_of_after_last 6 t2_0 (by decide +kernel) _ fun j => ?_
  rw [← staged0_eq V c, ← staged2_eq V c, ← staged3_eq V c, ← staged4_eq V c, ← staged5_eq V c]
  blk_simp
  rfl

variable (V' : Contents F)

set_option backward.isDefEq.respectTransparency.types false in
/-- The region, entered with the unscoped buffers at `V` and left with them at any `V'` that differs from `V` at the
    result alone, where it has the losses. -/
def reg (R : Dev nD → sProp 𝕄)
    (hout : ∀ c, V' c main_v8 = lossRow (F := F) (V c main_arg0) (V c main_arg0) (V c main_arg2) (V c main_v5) (V c main_v6) (V c main_v7))
    (hne : ∀ c (b : Ref sig .tc), b ≠ main_v8 → V' c b = V c b) :
    Pipeline.RegionSeg (pcfgs (F := F)) adm (dats V n adm) none defs₀ 𝒱₀ (K (F := F)).L (K (F := F)).lev 1 where
  win := launch₀2.win
  block_pos := launch₀2.block_pos
  stage_whole := launch₀2.stage_whole
  K := PEmpty
  osem k := k.elim
  ho := Pipeline.OwnSemFacts.none _
  hbody c := (body_obligation V n c).loose
  hwaits c := Pipeline.cellsWaits_intro _ _ _ 1 c fun w s t => (K (F := F)).mayWait_none _ (Otc_none c n)
  pre c := iprop(unscopedBufs c (V c) ∗ R c ∗ owesTc c n)
  post c := iprop(unscopedBufs c (V' c) ∗ R c ∗ owesTc c n)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs_shared (p := 1) (pcfgs (F := F)) adm (dats V n adm) launch₀2.win sharedIn2 arr_whole2 c
      (fun _ _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owesTc c n (dat V n c) 0 rfl rfl); iexact HO
    isplitr; · iempintro
    isplitl [Hrest] <;> iassumption
  hin c := by
    rw [show (dats V n adm 1 c).Φ 0 = rest c from rfl]
    iintro ⟨-, -, Hr⟩; iexact Hr
  hout c := by
    rw [Pipeline.ownSems0_none, show (dats V n adm 1 c).Φ (Fin.last _) = rest c from rfl]
    iintro Hr
    isplitr; · iempintro
    isplitr; · iempintro
    iexact Hr
  hexit c := by
    have hjoin := Pipeline.unscopedBufs_of_arrays_shared (p := 1) (pcfgs (F := F)) adm (Ix := HIx 1) (Name := ℕ) (U := UU) (Lvl := ℕ) launch₀2.win sharedIn2 arr_whole2 c
      (dats V n adm) (fun _ _ => rfl) (V c) (V' c) ((dats V n adm 1 c).arrAt · cfg2.N)
      (fun w => by
        fin_cases w
        · exact ((dats V n adm 1 c).arrAt_in 0 rfl _).trans (hne c main_arg0 (by decide)).symm
        · exact ((dats V n adm 1 c).arrAt_in 1 rfl _).trans (hne c main_arg0 (by decide)).symm
        · exact ((dats V n adm 1 c).arrAt_in 2 rfl _).trans (hne c main_arg2 (by decide)).symm
        · exact ((dats V n adm 1 c).arrAt_in 3 rfl _).trans (hne c main_v5 (by decide)).symm
        · exact ((dats V n adm 1 c).arrAt_in 4 rfl _).trans (hne c main_v6 (by decide)).symm
        · exact ((dats V n adm 1 c).arrAt_in 5 rfl _).trans (hne c main_v7 (by decide)).symm
        · exact (arr_result V n c).trans (hout c).symm)
      (fun b hb => hne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    iapply (owesTc_of_owesAt c n (dat V n c) (Fin.last _) rfl rfl); iexact HO

end Loss

end Cert.KernelIdeal.Run

end
-- ==== Proof.KernelIdeal.Main.lean ====
/-
  @main on a device: the host operations, the label region, the SparseCore call and the loss region in their order, the
  unscoped buffers' contents followed from the launch to the return. The run of the whole program from any launch memory
  whose indices name rows of the table: the result is `kernelOut` of the arguments, and the arguments are unchanged.
-/
module

public import proofs.«01_k».proof.Proof.KernelIdeal.Gather
public import proofs.«01_k».proof.Proof.KernelIdeal.Labelize
public import proofs.«01_k».proof.Proof.KernelIdeal.Loss
public import Idealize.ShloMosaic.Lib.Pipeline.Frame

@[expose] public section

set_option maxRecDepth 16384

noncomputable section

namespace Cert.KernelIdeal.Run

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)
open Idealize.ShloMosaic.Pipeline (ucRefs)

variable {F : FTy → Type} [FloatOps F] [Named F]

local notation "𝕄" => MT nD τ sig (HIx 1) (Elt F) ℕ UU ℕ

/-! ## What the kernel computes -/

/-- The label of each index: the labels of the table's rows, at the rows the indices name. -/
def labels (idx : S1024.Idx → Elt F .i32) (Y : S100000x100.Idx → Elt F .f32) : S1024.Idx → Elt F .f32 :=
  gathered (shapeCast S100000 (k0_pay1 (F := F) (transpose S100x100000 [1, 0] Y transposes_S100000x100_S100x100000_1_0)) shapeCasts_S1x100000_S100000) idx

/-- The kernel's result from the arguments it reads. -/
def kernelOut (x : S1024x64.Idx → Elt F .f32) (oh : S1024x100.Idx → Elt F .f32) (idx : S1024.Idx → Elt F .i32) (Y : S100000x100.Idx → Elt F .f32) :
    S3.Idx → Elt F .f32 :=
  shapeCast S3 (extractStridedSlice S1x3 ![0, 0]
    (lossRow (F := F) x x oh (shapeCast S1x1024 (labels (F := F) idx Y) shapeCasts_S1024_S1x1024)
      (shapeCast S1024x1 (sitofp (F := F) .f32 idx : FVec F S1024 .f32) shapeCasts_S1024_S1024x1)
      (shapeCast S1x1024 (sitofp (F := F) .f32 idx : FVec F S1024 .f32) shapeCasts_S1024_S1x1024)) slices_S1x128_S1x3_0_0) shapeCasts_S1x3_S3

/-! ## The buffers' contents along @main -/

/-- A TensorCore reference as a device buffer. -/
abbrev dv (b : Ref sig .tc) : DevRef τ sig := Proc.devRef .tc b

section Contents

variable (m : (ℓ : Loc nD τ sig) → Buf (Elt F) ℓ) (d : Dev nD)

abbrev W0 : Valuation τ sig (Elt F) := launchContents m d
abbrev op0 : HloOp τ sig (Elt F) :=
  StableHlo.unary main_arg6 main_v0 ((transpose S100x100000 [1, 0] · transposes_S100000x100_S100x100000_1_0) : (⟨S100000x100, .f32⟩ : BufTy).Contents (Elt F) → (⟨S100x100000, .f32⟩ : BufTy).Contents (Elt F))
abbrev op2 : HloOp τ sig (Elt F) := StableHlo.reshape main_v1 main_v2 (rfl : (.f32 : EltTy) = .f32) shapeCasts_S1x100000_S100000
abbrev op4 : HloOp τ sig (Elt F) :=
  StableHlo.unary main_arg3 main_v4 (sitofp .f32 : (⟨S1024, .i32⟩ : BufTy).Contents (Elt F) → (⟨S1024, .f32⟩ : BufTy).Contents (Elt F))
abbrev op5 : HloOp τ sig (Elt F) := StableHlo.reshape main_v3 main_v5 (rfl : (.f32 : EltTy) = .f32) shapeCasts_S1024_S1x1024
abbrev op6 : HloOp τ sig (Elt F) := StableHlo.reshape main_v4 main_v6 (rfl : (.f32 : EltTy) = .f32) shapeCasts_S1024_S1024x1
abbrev op7 : HloOp τ sig (Elt F) := StableHlo.reshape main_v4 main_v7 (rfl : (.f32 : EltTy) = .f32) shapeCasts_S1024_S1x1024
abbrev op9 : HloOp τ sig (Elt F) :=
  StableHlo.unary main_v8 main_v9 ((extractStridedSlice S1x3 ![0, 0] · slices_S1x128_S1x3_0_0) : (⟨S1x128, .f32⟩ : BufTy).Contents (Elt F) → (⟨S1x3, .f32⟩ : BufTy).Contents (Elt F))
abbrev op10 : HloOp τ sig (Elt F) := StableHlo.reshape main_v9 main_v10 (rfl : (.f32 : EltTy) = .f32) shapeCasts_S1x3_S3

/-- After the transposition; -/
def W1 : Valuation τ sig (Elt F) := op0.result (W0 m d)
/-- after the label region; -/
def W2 : Valuation τ sig (Elt F) := Function.update (W1 m d) (dv main_v1) (k0_pay1 (F := F) (W1 m d (dv main_v0)))
/-- after the table's reshape: the SparseCore call's operands; -/
def W3 : Valuation τ sig (Elt F) := op2.result (W2 m d)
def tab (d : Dev nD) : Buf (Elt F) (tabLoc d) := W3 m d (dv main_v2)
def idx (d : Dev nD) : Buf (Elt F) (idxLoc d) := W3 m d (dv main_arg3)
def out (d : Dev nD) : Buf (Elt F) (outLoc d) := W3 m d (dv main_v3)
/-- after the gather; -/
def W4 : Valuation τ sig (Elt F) := Function.update (W3 m d) (dv main_v3) (gout (tab m) (idx m) d)
/-- after the four host operations that follow; -/
def W5 : Valuation τ sig (Elt F) := op7.result (op6.result (op5.result (op4.result (W4 m d))))
/-- after the loss region; -/
def W6 : Valuation τ sig (Elt F) :=
  Function.update (W5 m d) (dv main_v8)
    (lossRow (F := F) (W5 m d (dv main_arg0)) (W5 m d (dv main_arg0)) (W5 m d (dv main_arg2)) (W5 m d (dv main_v5)) (W5 m d (dv main_v6)) (W5 m d (dv main_v7)))
/-- and at the return. -/
def W7 : Valuation τ sig (Elt F) := op10.result (op9.result (W6 m d))

theorem dv_ne {x y : Ref sig .tc} (h : x ≠ y) : dv x ≠ dv y := StableHlo.devRef_ne_of_ne h

end Contents

/-! ## The launch's ghost state -/

abbrev adm : (p : Fin 2) → (pcfgs (F := F) p).Adm := fun p => (cfgs p).toPCfg_adm

theorem cells_inj : Function.Injective (Pipeline.cellOf (nD := nD) (τ := τ) (Pipeline.pin (pcfgs (F := F)) adm)) := cellOf_inj

/-- The launch element: the handshakes', the pipelines', and nothing of the counters. -/
def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- A device's ghost state of both pipelines. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_emp' {I : Type} (s : Finset I) : (bigSep s fun _ => iprop(emp)) = (iprop(emp) : sProp 𝕄) := bigSep_emp_const s

theorem hu₀ (tab : (d : Dev nD) → Buf (Elt F) (tabLoc d)) (idx : (d : Dev nD) → Buf (Elt F) (idxLoc d)) (out : (d : Dev nD) → Buf (Elt F) (outLoc d)) :
    (ownU (u₀ (F := F)) : sProp 𝕄)
      ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P tab idx out).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), (1 : Counters)) : UP × Counters)) $$ Hu
  icases H with ⟨HH, HR⟩
  ihave H := (own_pair_emb (ER (F := F)) (initOf (Pipeline.cells (Pipeline.pin (pcfgs (F := F)) adm) cells_inj) (Pipeline.launchToks (Pipeline.pin (pcfgs (F := F)) adm) cells_inj)) (1 : Counters)) $$ HR
  icases H with ⟨HP, -⟩
  imod (Pipeline.fund_ghost (Pipeline.pin (pcfgs (F := F)) adm) (EP (F := F)) cells_inj) $$ HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P tab idx out).x q thr) = bigSep Finset.univ fun _ => iprop(emp) from
    bigSep_congr fun _ _ => bigSep_univ_of_subsingleton (0 : Fin 1), bigSep_emp']
  iempintro

/-! ## The steps of @main -/

section Steps

variable (d : Dev nD)

/-- A host operation, on all the unscoped buffers. -/
theorem host_step (op : HloOp τ sig (Elt F)) (hS : op.bufs ⊆ StableHlo.tcRefs τ sig) (hf : op.fresh = ∅) (W : Valuation τ sig (Elt F)) (Φ : PUnit → sProp 𝕄) :
    iprop(boundary (SparseCore.T d) ∗ held (SparseCore.T d) (ucRefs τ sig) W
        ∗ ((boundary (SparseCore.T d) ∗ held (SparseCore.T d) (ucRefs τ sig) (op.result W)) -∗ Φ ⟨⟩))
      ⊢ wp frame (wpE ((K (F := F)).defs (D (F := F))) 𝒱 (SparseCore.T d) none) Set.univ (hlo rfl op fun _ => .ret ⟨⟩) Φ := by
  iintro ⟨Hb, Hh, Hk⟩
  iapply (StableHlo.wp_hlo_within (𝒱 := 𝒱) (c := SparseCore.T d) (bd := none) (E := Set.univ) (op := op) (S := ucRefs τ sig) (Pipeline.sub_ucRefs op hS) hf) $$ [Hb Hh]
  · isplitl [Hb] <;> iassumption
  iintro H
  rw [wp_ret]
  imodintro
  iapply Hk
  iexact H

/-- Between calls, what the TensorCore owes can be taken out of its state and put back. -/
theorem tcSt_owes (n : ℕ) :
    (K (F := F)).tcSt (EH (F := F)) d n ⊢ iprop(owesTc (F := F) d n ∗ (owesTc (F := F) d n -∗ (K (F := F)).tcSt (EH (F := F)) d n)) := by
  unfold SparseCore.Cfg.tcSt owesTc
  iintro ⟨HO, Hr⟩
  isplitl [HO]; · iexact HO
  iintro HO
  isplitl [HO]; · iexact HO
  iexact Hr

/-- A TensorCore call, by its region: the unscoped buffers go from `W` to `W'`. -/
theorem region_step {p : Fin 2} {dats : (p : Fin 2) → (c : Dev nD) → Pipeline.Dat τ (Elt F) (HIx 1) ℕ UU ℕ (Pipeline.pin (pcfgs (F := F)) adm p) c}
    (R : Pipeline.RegionSeg (pcfgs (F := F)) adm dats none defs₀ 𝒱₀ (K (F := F)).L (K (F := F)).lev p) (n : ℕ) (W W' : Valuation τ sig (Elt F))
    (hpre : R.pre d = iprop(unscopedBufs d (fun b => W (dv b)) ∗ emp ∗ owesTc (F := F) d n))
    (hpost : R.post d = iprop(unscopedBufs d (fun b => W' (dv b)) ∗ emp ∗ owesTc (F := F) d n)) (Φ : PUnit → sProp 𝕄) :
    iprop(levAts (K (F := F)).L (K (F := F)).lev ∗ (K (F := F)).tcSt (EH (F := F)) d n ∗ boundary (SparseCore.T d) ∗ held (SparseCore.T d) (ucRefs τ sig) W
        ∗ Pipeline.cellsGhost (Pipeline.pin (pcfgs (F := F)) adm) EP p d ∗ Pipeline.toksInit (Pipeline.pin (pcfgs (F := F)) adm) EP p d
        ∗ (((K (F := F)).tcSt (EH (F := F)) d n ∗ boundary (SparseCore.T d) ∗ held (SparseCore.T d) (ucRefs τ sig) W') -∗ Φ ⟨⟩))
      ⊢ wp frame (wpE ((K (F := F)).defs (D (F := F))) 𝒱 (SparseCore.T d) none) Set.univ (Prog.lift (.customCall (SparseCore.inner (Pipeline.entry p)) ())) Φ := by
  have hstep := Pipeline.RegionSeg.wp (pcfgs (F := F)) adm dats none cells_inj (EP (F := F)) defs₀ 𝒱₀ (K (F := F)).L (K (F := F)).lev R d none
    (fun u hu => absurd hu (by simp)) .ret Φ
  change _ ⊢ wp _ _ _ (SparseCore.liftProg (.op (.customCall (Pipeline.entry p) ()) .ret)) _
  rw [hpre, hpost, Pipeline.unscopedBufs_held, Pipeline.unscopedBufs_held] at hstep
  iintro ⟨Hl, Hst, Hb, Hh, Hg, Ht, Hk⟩
  iapply ((K (F := F)).wp_liftProg (D (F := F)) 𝒱 (SparseCore.T d) Set.univ none _ Φ)
  iapply hstep
  ihave H := (tcSt_owes (F := F) d n) $$ Hst
  icases H with ⟨HO, Hback⟩
  isplitl [Hk Hback]
  · iintro ⟨Hb, Hh, -, HO⟩
    rw [wp_ret]
    imodintro
    iapply Hk
    isplitl [Hback HO]; · iapply Hback; iexact HO
    isplitl [Hb] <;> iassumption
  isplitl [Hb]; · iexact Hb
  isplitl [Hh HO]
  · isplitl [Hh]; · iexact Hh
    isplitr; · iempintro
    iexact HO
  isplitl [Hl]; · iexact Hl
  isplitl [Hg] <;> iassumption

/-- The SparseCore call's buffers out of the unscoped ones. -/
def callRefs : Finset (DevRef τ sig) := {dv main_arg3, dv main_v2, dv main_v3}

theorem callRefs_sub : callRefs ⊆ ucRefs τ sig := by
  intro b hb
  simp only [callRefs, Finset.mem_insert, Finset.mem_singleton] at hb
  rcases hb with rfl | rfl | rfl <;>
    exact Finset.mem_filter.mpr ⟨StableHlo.devRef_mem_tcRefs _, by decide⟩

theorem held_callRefs (W : Valuation τ sig (Elt F)) :
    (held (SparseCore.T d) callRefs W : sProp 𝕄)
      = iprop((idxLoc d ↦{fullShare} W (dv main_arg3)) ∗ (tabLoc d ↦{fullShare} W (dv main_v2)) ∗ (outLoc d ↦{fullShare} W (dv main_v3))) := by
  have h1 : dv main_arg3 ≠ dv main_v2 := dv_ne (by decide)
  have h2 : dv main_arg3 ≠ dv main_v3 := dv_ne (by decide)
  have h3 : dv main_v2 ≠ dv main_v3 := dv_ne (by decide)
  unfold held callRefs
  rw [SparseCore.bigSep_insert' (by simp [h1, h2]), SparseCore.bigSep_insert' (by simp [h3]), bigSep_singleton]

variable (m : (ℓ : Loc nD τ sig) → Buf (Elt F) ℓ)

/-- The gather writes its result alone. -/
theorem held_gather :
    (iprop((idxLoc d ↦{fullShare} idx m d) ∗ (tabLoc d ↦{fullShare} tab m d) ∗ (outLoc d ↦{fullShare} gout (tab m) (idx m) d)) : sProp 𝕄)
      = held (SparseCore.T d) callRefs (W4 m d) := by
  rw [held_callRefs]
  have e1 : W4 m d (dv main_arg3) = idx m d := Function.update_of_ne (dv_ne (by decide)) _ _
  have e2 : W4 m d (dv main_v2) = tab m d := Function.update_of_ne (dv_ne (by decide)) _ _
  have e3 : W4 m d (dv main_v3) = gout (tab m) (idx m) d := Function.update_self _ _ _
  rw [e1, e2, e3]

theorem held_gather_rest :
    (held (SparseCore.T d) (ucRefs τ sig \ callRefs) (W3 m d) : sProp 𝕄) = held (SparseCore.T d) (ucRefs τ sig \ callRefs) (W4 m d) :=
  StableHlo.held_congr _ fun b hb => (Function.update_of_ne (fun h => (Finset.mem_sdiff.mp hb).2 (by subst h; simp [callRefs])) _ _).symm

/-- The SparseCore call. -/
theorem gather_step (κ : GSem nD τ sig → ℕ) (Φ : PUnit → sProp 𝕄) :
    iprop((K (F := F)).ctx EH (P (tab m) (idx m) (out m)) κ ∗ (K (F := F)).tcSt (EH (F := F)) d 0 ∗ held (SparseCore.T d) (ucRefs τ sig) (W3 m d)
        ∗ (((K (F := F)).tcSt (EH (F := F)) d 1 ∗ held (SparseCore.T d) (ucRefs τ sig) (W4 m d)) -∗ Φ ⟨⟩))
      ⊢ wp frame (wpE ((K (F := F)).defs (D (F := F))) 𝒱 (SparseCore.T d) none) Set.univ ((K (F := F)).run d 0) Φ := by
  rw [StableHlo.held_sub_split _ callRefs_sub (W3 m d), StableHlo.held_sub_split _ callRefs_sub (W4 m d), held_gather_rest]
  iintro ⟨#Hctx, Hst, ⟨Hc, Hr⟩, Hk⟩
  iapply ((K (F := F)).wp_run (D (F := F)) 𝒱 (EH := EH) (P := P (tab m) (idx m) (out m)) κ d 0) $$ [Hst Hc Hr Hk]
  isplitr; · iexact Hctx
  isplitl [Hst]; · iexact Hst
  isplitl [Hc]
  · rw [st0_eq]
    iapply (Entails.of_eq (held_callRefs (F := F) d (W3 m d))); iexact Hc
  iintro ⟨Hst, Hdn⟩
  iapply Hk
  isplitl [Hst]; · iexact Hst
  isplitl [Hdn]
  · iapply (Entails.of_eq ((dn0_eq (tab m) (idx m) (out m) d).trans (held_gather (F := F) d m))); iexact Hdn
  iexact Hr

end Steps

/-! ## The contents at the return, from the launch's -/

section Read

variable (m : (ℓ : Loc nD τ sig) → Buf (Elt F) ℓ) (d : Dev nD)

/-- A buffer that @main does not write keeps its contents until the SparseCore call, -/
theorem W3_keep {b : Ref sig .tc} (h0 : b ≠ main_v0) (h1 : b ≠ main_v1) (h2 : b ≠ main_v2) : W3 m d (dv b) = m (d, dv b) := by
  unfold W3
  rw [StableHlo.reshape_result_ne' _ _ _ _ _ h2]
  unfold W2
  rw [Function.update_of_ne (dv_ne h1)]
  unfold W1
  rw [StableHlo.unary_result_ne' _ _ _ _ h0]

/-- until the loss region, -/
theorem W5_keep {b : Ref sig .tc} (h0 : b ≠ main_v0) (h1 : b ≠ main_v1) (h2 : b ≠ main_v2) (h3 : b ≠ main_v3) (h4 : b ≠ main_v4) (h5 : b ≠ main_v5)
    (h6 : b ≠ main_v6) (h7 : b ≠ main_v7) : W5 m d (dv b) = m (d, dv b) := by
  unfold W5
  rw [StableHlo.reshape_result_ne' _ _ _ _ _ h7, StableHlo.reshape_result_ne' _ _ _ _ _ h6, StableHlo.reshape_result_ne' _ _ _ _ _ h5,
    StableHlo.unary_result_ne' _ _ _ _ h4]
  unfold W4
  rw [Function.update_of_ne (dv_ne h3), W3_keep m d h0 h1 h2]

/-- and until the return. -/
theorem W7_keep {b : Ref sig .tc} (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) (h10 : b ≠ main_v10) : W7 m d (dv b) = m (d, dv b) := by
  unfold W7
  rw [StableHlo.reshape_result_ne' _ _ _ _ _ h10, StableHlo.unary_result_ne' _ _ _ _ h9]
  unfold W6
  rw [Function.update_of_ne (dv_ne h8), W5_keep m d h0 h1 h2 h3 h4 h5 h6 h7]

/-- The gather's indices are the argument's; -/
theorem idx_eq : idx m d = m (d, dv main_arg3) := W3_keep m d (by decide) (by decide) (by decide)

/-- its table is the labels of the one-hot table's rows. -/
theorem tab_eq : tab m d = shapeCast S100000 (k0_pay1 (F := F) (transpose S100x100000 [1, 0] (m (d, dv main_arg6)) transposes_S100000x100_S100x100000_1_0)) shapeCasts_S1x100000_S100000 := by
  unfold tab W3
  rw [StableHlo.reshape_result']
  unfold W2
  rw [Function.update_self]
  unfold W1
  rw [StableHlo.unary_result']
  rfl

/-- What the gather leaves is the labels at the indices. -/
theorem gout_eq : gout (tab m) (idx m) d = labels (F := F) (m (d, dv main_arg3)) (m (d, dv main_arg6)) := by
  show gathered (tab m d) (idx m d) = _
  rw [tab_eq, idx_eq]
  rfl

/-- The operands of the loss region that host operations write. -/
theorem W5_v5 : W5 m d (dv main_v5) = shapeCast S1x1024 (labels (F := F) (m (d, dv main_arg3)) (m (d, dv main_arg6))) shapeCasts_S1024_S1x1024 := by
  unfold W5
  rw [StableHlo.reshape_result_ne' _ _ _ _ _ (by decide), StableHlo.reshape_result_ne' _ _ _ _ _ (by decide), StableHlo.reshape_result',
    StableHlo.unary_result_ne' _ _ _ _ (by decide)]
  unfold W4
  rw [Function.update_self, gout_eq]
  rfl

theorem W4_arg3 : W4 m d (dv main_arg3) = m (d, dv main_arg3) := by
  unfold W4
  rw [Function.update_of_ne (dv_ne (by decide)), W3_keep m d (by decide) (by decide) (by decide)]

theorem W5_v6 : W5 m d (dv main_v6) = shapeCast S1024x1 (sitofp (F := F) .f32 (m (d, dv main_arg3)) : FVec F S1024 .f32) shapeCasts_S1024_S1024x1 := by
  unfold W5
  rw [StableHlo.reshape_result_ne' _ _ _ _ _ (by decide), StableHlo.reshape_result', StableHlo.reshape_result_ne' _ _ _ _ _ (by decide),
    StableHlo.unary_result', W4_arg3]
  rfl

theorem W5_v7 : W5 m d (dv main_v7) = shapeCast S1x1024 (sitofp (F := F) .f32 (m (d, dv main_arg3)) : FVec F S1024 .f32) shapeCasts_S1024_S1x1024 := by
  unfold W5
  rw [StableHlo.reshape_result', StableHlo.reshape_result_ne' _ _ _ _ _ (by decide), StableHlo.reshape_result_ne' _ _ _ _ _ (by decide),
    StableHlo.unary_result', W4_arg3]
  rfl

/-- The result's buffer at the return. -/
theorem W7_result : W7 m d (dv main_v10) = kernelOut (F := F) (m (d, dv main_arg0)) (m (d, dv main_arg2)) (m (d, dv main_arg3)) (m (d, dv main_arg6)) := by
  have e0 : W5 m d (dv main_arg0) = m (d, dv main_arg0) := W5_keep m d (by decide) (by decide) (by decide) (by decide) (by decide) (by decide) (by decide) (by decide)
  have e2 : W5 m d (dv main_arg2) = m (d, dv main_arg2) := W5_keep m d (by decide) (by decide) (by decide) (by decide) (by decide) (by decide) (by decide) (by decide)
  unfold W7
  rw [StableHlo.reshape_result', StableHlo.unary_result']
  unfold W6
  rw [Function.update_self, e0, e2, W5_v5, W5_v6, W5_v7]
  rfl

end Read

/-! ## @main -/

section Run

variable (m : (ℓ : Loc nD τ sig) → Buf (Elt F) ℓ) (ρ : Dev nD → PrngReg)

/-- The two regions at @main's contents. -/
def labReg := Lab.reg (F := F) adm (fun c b => W1 m c (dv b)) 0 (fun c b => W2 m c (dv b)) (fun _ => iprop(emp))
  (fun _ => Function.update_self _ _ _) (fun _ _ h => Function.update_of_ne (dv_ne h) _ _)
def lossReg := Loss.reg (F := F) (fun c b => W5 m c (dv b)) 1 adm (fun c b => W6 m c (dv b)) (fun _ => iprop(emp))
  (fun _ => Function.update_self _ _ _) (fun _ _ h => Function.update_of_ne (dv_ne h) _ _)

abbrev FIN (d : Dev nD) : sProp 𝕄 := held (SparseCore.T d) (ucRefs τ sig) (W7 m d)

theorem two (Φ : Fin 2 → sProp 𝕄) : bigSep Finset.univ Φ = iprop(Φ 0 ∗ Φ 1) := BI.bigSep_fin_two Φ

theorem hmain (κ : GSem nD τ sig → ℕ) (d : Dev nD) :
    iprop((K (F := F)).ctx EH (P (tab m) (idx m) (out m)) κ ∗ (K (F := F)).tcSt (EH (F := F)) d 0 ∗ (K (F := F)).tcRes m ρ d ∗ G (F := F) d)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd G
  rw [two, two, show (unscopedBufs d (fun b => m ((SparseCore.T d).loc b)) : sProp 𝕄) = held (SparseCore.T d) (ucRefs τ sig) (W0 m d) from
    Pipeline.unscopedBufs_held d (W0 m d)]
  simp only [main, wp_bind, wp_pure]
  iintro ⟨#Hctx, Hst, ⟨Hb, Hh, Hts, -⟩, ⟨Hg0, Hg1⟩, Ht0, Ht1⟩
  ihave #Hlev := ((K (F := F)).ctx_levAts κ) $$ Hctx
  iapply (host_step (F := F) d op0 (StableHlo.unary_bufs_sub ..) rfl (W0 m d))
  isplitl [Hb]; · iexact Hb
  isplitl [Hh]; · iexact Hh
  iintro ⟨Hb, Hh⟩
  iapply (region_step (F := F) d (labReg m) 0 (W1 m d) (W2 m d) rfl rfl)
  isplitr; · iexact Hlev
  isplitl [Hst]; · iexact Hst
  isplitl [Hb]; · iexact Hb
  isplitl [Hh]; · iexact Hh
  isplitl [Hg0]; · iexact Hg0
  isplitl [Ht0]; · iexact Ht0
  iintro ⟨Hst, Hb, Hh⟩
  iapply (host_step (F := F) d op2 (StableHlo.reshape_bufs_sub ..) rfl (W2 m d))
  isplitl [Hb]; · iexact Hb
  isplitl [Hh]; · iexact Hh
  iintro ⟨Hb, Hh⟩
  iapply (gather_step (F := F) d m κ)
  isplitr; · iexact Hctx
  isplitl [Hst]; · iexact Hst
  isplitl [Hh]; · iexact Hh
  iintro ⟨Hst, Hh⟩
  iapply (host_step (F := F) d op4 (StableHlo.unary_bufs_sub ..) rfl (W4 m d))
  isplitl [Hb]; · iexact Hb
  isplitl [Hh]; · iexact Hh
  iintro ⟨Hb, Hh⟩
  iapply (host_step (F := F) d op5 (StableHlo.reshape_bufs_sub ..) rfl _)
  isplitl [Hb]; · iexact Hb
  isplitl [Hh]; · iexact Hh
  iintro ⟨Hb, Hh⟩
  iapply (host_step (F := F) d op6 (StableHlo.reshape_bufs_sub ..) rfl _)
  isplitl [Hb]; · iexact Hb
  isplitl [Hh]; · iexact Hh
  iintro ⟨Hb, Hh⟩
  iapply (host_step (F := F) d op7 (StableHlo.reshape_bufs_sub ..) rfl _)
  isplitl [Hb]; · iexact Hb
  isplitl [Hh]; · iexact Hh
  iintro ⟨Hb, Hh⟩
  iapply (region_step (F := F) d (lossReg m) 1 (W5 m d) (W6 m d) rfl rfl)
  isplitr; · iexact Hlev
  isplitl [Hst]; · iexact Hst
  isplitl [Hb]; · iexact Hb
  isplitl [Hh]; · iexact Hh
  isplitl [Hg1]; · iexact Hg1
  isplitl [Ht1]; · iexact Ht1
  iintro ⟨Hst, Hb, Hh⟩
  iapply (host_step (F := F) d op9 (StableHlo.unary_bufs_sub ..) rfl (W6 m d))
  isplitl [Hb]; · iexact Hb
  isplitl [Hh]; · iexact Hh
  iintro ⟨Hb, Hh⟩
  iapply (host_step (F := F) d op10 (StableHlo.reshape_bufs_sub ..) rfl _)
  isplitl [Hb]; · iexact Hb
  isplitl [Hh]; · iexact Hh
  iintro ⟨Hb, Hh⟩
  imodintro
  isplitl [Hst]; · iexact Hst
  isplitl [Hh]; · iexact Hh
  isplitl [Hb] <;> iassumption

/-- The final memory holds @main's last contents. -/
def fq (d : Dev nD) (s' : Phys nD τ sig (Elt F)) : Prop := ∀ b ∈ ucRefs τ sig, s'.mem.mem (d, b) = W7 m d b

theorem hfin (d : Dev nD) (s' : Phys nD τ sig (Elt F)) : iprop(FIN m d ∗ SI s') ⊢ (⌜fq m d s'⌝ : sProp 𝕄) := by
  refine (pointsTo_read_all (ucRefs τ sig) (fun b => ((d, b) : Loc nD τ sig)) (fun b => W7 m d b) s').trans ?_
  iintro ⟨%h, -⟩
  ipureintro; exact h

/-- The run of the whole program: every unscoped buffer ends at @main's last contents. -/
theorem run_contents [∀ e, Nonempty (Elt F e)] (hpre : InRange (idx m)) :
    θ_run (Cert.KernelIdeal.defs (F := F)) (Cert.KernelIdeal.threads (F := F)) ⟨m, fun _ => 0, ρ⟩
      (fun r => (∀ d : Dev nD, ∀ b ∈ ucRefs τ sig, r.2.mem (d, b) = W7 m d b) ∧ r.2.sem = fun _ => 0) :=
  SparseCore.Cfg.θ_run_sc_quiescent (K := K (F := F)) (D := D (F := F)) (𝒱 := 𝒱) (EH := EH) (P := P (tab m) (idx m) (out m)) (A := ∅) facts v₀
    (fun q hq => match q with | 0 => nomatch hq)
    (fun q _ => match q with | 0 => tileObl (tab m) (idx m) (out m) facts hpre)
    (fun q _ => match q with | 0 => SparseCore.Cfg.VecSplit.of_plain (vecSplit (tab m) (idx m) (out m)))
    m ρ main G (FIN m) (u₀ (F := F)) (sep_elim_left.trans (hu₀ (tab m) (idx m) (out m))) (hmain m ρ) (fq m) (hfin m) _ (fun _ h hz => ⟨h, hz⟩)

/-- A TensorCore reference that is not scoped is among the buffers followed. -/
theorem mem_ucRefs {b : Ref sig .tc} (h : (dv b).isScoped = false) : dv b ∈ ucRefs τ sig :=
  Finset.mem_filter.mpr ⟨StableHlo.devRef_mem_tcRefs _, by rw [h]; decide⟩

/-- The run of the whole program from any launch memory whose indices are in range: the result is `kernelOut` of the
    arguments, every argument ends as it began, and every semaphore counter ends at zero. -/
theorem run [∀ e, Nonempty (Elt F e)] (hpre : ∀ (c : Dev nD) (j : S1024.Idx), (m ((c.tc : Thread nD τ).loc main_arg3) j : BitVec 32).toNat < 100000) :
    θ_run (Cert.KernelIdeal.defs (F := F)) (Cert.KernelIdeal.threads (F := F)) ⟨m, fun _ => 0, ρ⟩
      (fun r => (∀ c : Dev nD,
          r.2.mem ((c.tc : Thread nD τ).loc main_v10) = kernelOut (F := F) (m ((c.tc : Thread nD τ).loc main_arg0)) (m ((c.tc : Thread nD τ).loc main_arg2))
            (m ((c.tc : Thread nD τ).loc main_arg3)) (m ((c.tc : Thread nD τ).loc main_arg6))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
        ∧ r.2.sem = fun _ => 0) := by
  have hrange : InRange (idx m) := fun d j => by rw [idx_eq]; exact hpre d j
  refine (θ_run (Cert.KernelIdeal.defs (F := F)) _ _).mono (fun r h => ⟨fun c => ?_, h.2⟩) (run_contents m ρ hrange)
  have hk : ∀ b : Ref sig .tc, (dv b).isScoped = false → b ≠ main_v0 → b ≠ main_v1 → b ≠ main_v2 → b ≠ main_v3 → b ≠ main_v4 → b ≠ main_v5 → b ≠ main_v6
      → b ≠ main_v7 → b ≠ main_v8 → b ≠ main_v9 → b ≠ main_v10 → r.2.mem (c, dv b) = m (c, dv b) :=
    fun b hb h0 h1 h2 h3 h4 h5 h6 h7 h8 h9 h10 => (h.1 c (dv b) (mem_ucRefs hb)).trans (W7_keep m c h0 h1 h2 h3 h4 h5 h6 h7 h8 h9 h10)
  refine ⟨(h.1 c (dv main_v10) (mem_ucRefs (by decide))).trans (W7_result m c), ?_, ?_, ?_, ?_, ?_, ?_, ?_⟩
  · exact hk main_arg0 (by decide) (by decide) (by decide) (by decide) (by decide) (by decide) (by decide) (by decide) (by decide) (by decide) (by decide) (by decide)
  · exact hk main_arg1 (by decide) (by decide) (by decide) (by decide) (by decide) (by decide) (by decide) (by decide) (by decide) (by decide) (by decide) (by decide)
  · exact hk main_arg2 (by decide) (by decide) (by decide) (by decide) (by decide) (by decide) (by decide) (by decide) (by decide) (by decide) (by decide) (by decide)
  · exact hk main_arg3 (by decide) (by decide) (by decide) (by decide) (by decide) (by decide) (by decide) (by decide) (by decide) (by decide) (by decide) (by decide)
  · exact hk main_arg4 (by decide) (by decide) (by decide) (by decide) (by decide) (by decide) (by decide) (by decide) (by decide) (by decide) (by decide) (by decide)
  · exact hk main_arg5 (by decide) (by decide) (by decide) (by decide) (by decide) (by decide) (by decide) (by decide) (by decide) (by decide) (by decide) (by decide)
  · exact hk main_arg6 (by decide) (by decide) (by decide) (by decide) (by decide) (by decide) (by decide) (by decide) (by decide) (by decide) (by decide) (by decide)

end Run

end Cert.KernelIdeal.Run

end
-- ==== Proof.Frames.lean ====
/- The frames of the three programs and the two sites of the idealization: each frame is the program's run with the
   values of its results dropped, and the range of the indices is read out of the precondition's words. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Main
public import proofs.«01_k».proof.Proof.KernelIdeal.Main

@[expose] public section

noncomputable section

namespace Cert.Proof

open Idealize.ShloMosaic Idealize.ShloMosaic.TcCoe Idealize.SL.Sem Idealize.ShloMosaic.StableHlo

/-- The shape relation that the range precondition states. -/
theorem rangeFacts : Cert.Pre_in_range.Facts where
  bcast_S_S1024 := by decide

/-- The shape relations that the precondition on the drawn inputs states. -/
theorem drawnFacts : Cert.Pre_drawn.Facts where
  bcast_S_S1024 := by decide
  bcast_S_S100000x64 := by decide
  bcast_S_S1024x100 := by decide
  natLt_1_32 := by decide
  reducesTo_S1024x100_S1024_d1 := by decide
  h_S_ := by decide
  bcast_S_S100000x100 := by decide
  reducesTo_S100000x100_S100000_d1 := by decide
  bcast_S_S100000 := by decide

/-- The conjunction of two one-bit truth values is the truth value of the conjunction. -/
theorem andi_bits (p q : Bool) : IntOp.andi (BitVec.ofBool p) (BitVec.ofBool q) = BitVec.ofBool (p && q) := by
  cases p <;> cases q <;> decide

/-- The disjunction of two one-bit truth values is the truth value of the disjunction. -/
theorem ori_bits (p q : Bool) : IntOp.ori (BitVec.ofBool p) (BitVec.ofBool q) = BitVec.ofBool (p || q) := by
  cases p <;> cases q <;> decide

/-- A one-bit truth value is one exactly when it is true. -/
theorem bit_true (p : Bool) : BitVec.ofBool p = 1#1 ↔ p = true := by
  cases p <;> decide

/-- A word that is at least 0 and less than 100000 as a signed number is less than 100000 as an unsigned one. -/
theorem word_range (v : BitVec 32)
    (e : IntOp.andi (IntOp.cmpi .sge v 0#32) (IntOp.cmpi .slt v 100000#32) = 1#1) : v.toNat < 100000 := by
  simp only [IntOp.cmpi, andi_bits, bit_true, Bool.and_eq_true, BitVec.sle_eq_decide, BitVec.slt_eq_decide,
    decide_eq_true_eq, BitVec.toInt_eq_toNat_cond, BitVec.toNat_ofNat, Nat.reducePow, Nat.reduceMod] at e
  omega

section
attribute [local instance] rangeFacts drawnFacts Cert.Kernel.Gen.facts Cert.KernelIdeal.Gen.facts Cert.ReferenceIdeal.Gen.facts

/-- Under the range precondition every index of the program on words names a row. -/
theorem range_Kernel (m : (ℓ : Loc Cert.Kernel.nD Cert.Kernel.τ Cert.Kernel.sig) → Buf (Elt Bits) ℓ)
    (h : Cert.Pre_Kernel m) (c : Dev Cert.Kernel.nD) (j : Cert.Kernel.S1024.Idx) :
    (m ((c.tc : Thread Cert.Kernel.nD Cert.Kernel.τ).loc Cert.Kernel.main_arg3) j : BitVec 32).toNat < 100000 := by
  have e := congrFun (h c) j
  simp only [Pre_in_range.fn, andi, cmpi, broadcastInDim, constantI] at e
  exact word_range _ e

/-- Under the range precondition every index of the ideal program names a row. -/
theorem range_KernelIdeal (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S1024.Idx) :
    (m ((c.tc : Thread Cert.KernelIdeal.nD Cert.KernelIdeal.τ).loc Cert.KernelIdeal.main_arg3) j : BitVec 32).toNat < 100000 := by
  have e := congrFun (h c) j
  simp only [Pre_in_range.fn, andi, cmpi, broadcastInDim, constantI] at e
  exact word_range _ e

/-- Under the precondition on the drawn inputs every index of the ideal program names a row. -/
theorem range_drawn (m : (ℓ : Loc Cert.KernelIdeal.nD Cert.KernelIdeal.τ Cert.KernelIdeal.sig) → Buf (Elt Ideal) ℓ)
    (h : Cert.Pre_KernelIdeal_drawn m) (c : Dev Cert.KernelIdeal.nD) (j : Cert.KernelIdeal.S1024.Idx) :
    (m ((c.tc : Thread Cert.KernelIdeal.nD Cert.KernelIdeal.τ).loc Cert.KernelIdeal.main_arg3) j : BitVec 32).toNat < 100000 := by
  have e := congrFun (h c).1 j
  simp only [Pre_drawn.fn, Pre_drawn.fn_part1, andi, cmpi, broadcastInDim, constantI] at e
  exact word_range _ e

/-- The program on words runs, leaves its arguments as they were, and ends with every counter at zero. -/
theorem frame_Kernel : Cert.quiescent_Kernel := fun m ρ hpre =>
  (θ_run Cert.Kernel.defs _ _).mono (fun _ h => ⟨fun c => (h.1 c).2, h.2⟩)
    (Cert.Kernel.Run.run m ρ (range_Kernel m hpre))

/-- The ideal program runs, leaves its arguments as they were, and ends with every counter at zero. -/
theorem frame_KernelIdeal : Cert.quiescent_KernelIdeal := fun m ρ hpre =>
  (θ_run Cert.KernelIdeal.defs _ _).mono (fun _ h => ⟨fun c => (h.1 c).2, h.2⟩)
    (Cert.KernelIdeal.Run.run m ρ (range_KernelIdeal m hpre))

/-- The same from the precondition on the drawn inputs. -/
theorem frame_KernelIdeal_drawn : Cert.quiescent_KernelIdeal_pre_drawn := fun m ρ hpre =>
  (θ_run Cert.KernelIdeal.defs _ _).mono (fun _ h => ⟨fun c => (h.1 c).2, h.2⟩)
    (Cert.KernelIdeal.Run.run m ρ (range_drawn m hpre))

/-- The reference runs, leaves its arguments as they were, and ends with every counter at zero. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the precondition on the drawn inputs. -/
theorem frame_ReferenceIdeal_drawn : Cert.quiescent_ReferenceIdeal_pre_drawn := fun m ρ _ =>
  (θ_run Cert.ReferenceIdeal.defs _ _).mono (fun r h => ⟨fun c => (h c).2, sem_eq_zero_of_no_sems (by decide) r.2⟩)
    (Cert.ReferenceIdeal.Value.run (F := Ideal) m ρ)

end

/-- The two sites of the idealization: the rounded logarithm of two is within rounding of the named one, and
    one with the sign bit of a word is what the comparison with zero selects. -/
theorem sites : Cert.preserves_Kernel_KernelIdeal :=
  ⟨IdealRules.named_const.statement Cert.KernelIdeal.κ "log2" .f32 0x3F317218#32 _ rfl,
    IdealRules.sign_bit.statement _ _⟩

end Cert.Proof

end
-- ==== Proof.Value.Model.lean ====
/- The mathematics of the loss over the extended reals, with no program in it: the similarity term of one pair, the
   last occurrence of an index, and the sum over the table's rows split into the rows that an index names and the rest. -/
module

public import Idealize.ShloMosaic.PureOps.Ideal.Laws
public import Idealize.ShloMosaic.Lib.IdealHost

@[expose] public section

noncomputable section

namespace Cert.Value

open Idealize.ShloMosaic
open scoped BigOperators

/-- Half the inner product, clipped to [-50, 50]. -/
def clip (t : EReal) : EReal :=
  min (Ideal.ofBits .f32 0x42480000#32) (max (Ideal.ofBits .f32 0xC2480000#32) (Ideal.ofBits .f32 0x3F000000#32 * t))

/-- The softplus function. -/
def softplus (t : EReal) : EReal := max t 0 + Ideal.log1p (Ideal.exp (-(max t (-t))))

/-- The similarity term of a pair with inner product `t`, similar when `s`. -/
def term (t : EReal) (s : Prop) [Decidable s] : EReal := softplus (clip t) - if s then clip t else 0

theorem fifty : Ideal.ofBits .f32 0x42480000#32 = ((50 : ℝ) : EReal) := by
  simp [Ideal.ofBits, Ideal.ieee, -EReal.coe_mul]; norm_num
theorem neg_fifty : Ideal.ofBits .f32 0xC2480000#32 = ((-50 : ℝ) : EReal) := by
  simp [Ideal.ofBits, Ideal.ieee, -EReal.coe_mul]; norm_num
/-- The number of pairs, -/
theorem pairs : Ideal.ofBits .f32 0x4CC35000#32 = ((102400000 : ℝ) : EReal) := by
  simp [Ideal.ofBits, Ideal.ieee, -EReal.coe_mul]; norm_num
/-- and the number of rows of the batch. -/
theorem rows : Ideal.ofBits .f32 0x44800000#32 = ((1024 : ℝ) : EReal) := by
  simp [Ideal.ofBits, Ideal.ieee, -EReal.coe_mul]; norm_num

/-- Zero is inside the clipping range. -/
theorem clip_zero : clip 0 = 0 := by
  have h1 : (((-50 : ℝ) : EReal)) ≤ 0 := by exact_mod_cast (by norm_num : (-50 : ℝ) ≤ 0)
  have h2 : (0 : EReal) ≤ ((50 : ℝ) : EReal) := by exact_mod_cast (by norm_num : (0 : ℝ) ≤ 50)
  rw [clip, mul_zero, neg_fifty, fifty, max_eq_right h1, min_eq_right h2]

/-- The softplus of zero is the logarithm of two. -/
theorem softplus_zero : softplus 0 = ((Real.log 2 : ℝ) : EReal) := by
  have e : (1 : EReal) + ((1 : ℝ) : EReal) = ((2 : ℝ) : EReal) := by
    rw [← EReal.coe_one, ← EReal.coe_add]; norm_num
  rw [softplus, neg_zero, max_self, neg_zero, zero_add, Ideal.log1p, ← EReal.coe_zero, Ideal.exp_coe, Real.exp_zero, e,
    Ideal.log_coe, if_neg (by norm_num)]

/-- A pair whose inner product is zero contributes the logarithm of two, similar or not. -/
theorem term_zero (s : Prop) [Decidable s] : term 0 s = ((Real.log 2 : ℝ) : EReal) := by
  rw [term, clip_zero, ite_self, sub_zero, softplus_zero]

/-! ## The last occurrence of an index -/

variable {B N : ℕ}

/-- No later entry has the same index. -/
def Last (i : Fin B → Fin N) (q : Fin B) : Prop := ∀ r, q < r → i r ≠ i q

instance (i : Fin B → Fin N) (q : Fin B) : Decidable (Last i q) := inferInstanceAs (Decidable (∀ r, q < r → i r ≠ i q))

/-- Two last occurrences of one index are one. -/
theorem Last.inj {i : Fin B → Fin N} {q r : Fin B} (hq : Last i q) (hr : Last i r) (e : i q = i r) : q = r := by
  rcases lt_trichotomy q r with h | h | h
  · exact absurd e.symm (hq r h)
  · exact h
  · exact absurd e (hr q h)

/-- Every index that occurs has a last occurrence. -/
theorem exists_last (i : Fin B → Fin N) (q : Fin B) : ∃ r, Last i r ∧ i r = i q := by
  obtain ⟨r, hr, hmax⟩ := Finset.exists_max_image (Finset.univ.filter fun r => i r = i q) id
    ⟨q, Finset.mem_filter.2 ⟨Finset.mem_univ q, rfl⟩⟩
  have er := (Finset.mem_filter.1 hr).2
  exact ⟨r, fun s hs e => absurd (hmax s (Finset.mem_filter.2 ⟨Finset.mem_univ s, e.trans er⟩)) (not_le.2 hs), er⟩

/-- A sum over all rows, of a function that is constant off the rows named, is the sum over the last occurrences of the
    indices plus the constant once for each other row. -/
theorem sum_split (i : Fin B → Fin N) (f : Fin N → EReal) (a : EReal) (h : ∀ n, (∀ q, i q ≠ n) → f n = a) :
    ∑ n, f n = (∑ q, if Last i q then f (i q) else 0)
      + (N - (Finset.univ.filter fun q => Last i q).card) • a := by
  set W := Finset.univ.filter fun q => Last i q with hW
  have hinj : Set.InjOn i W := fun q hq r hr e =>
    (Finset.mem_filter.1 hq).2.inj (Finset.mem_filter.1 hr).2 e
  rw [← Finset.sum_filter, ← hW, ← Finset.sum_image (f := f) hinj,
    ← Finset.sum_add_sum_compl (W.image i) f]
  congr 1
  rw [Finset.sum_congr rfl (g := fun _ => a), Finset.sum_const, Finset.card_compl, Finset.card_image_of_injOn hinj,
    Fintype.card_fin]
  intro n hn
  refine h n fun q e => ?_
  obtain ⟨r, hr, er⟩ := exists_last i q
  exact Finset.mem_compl.1 hn (Finset.mem_image.2 ⟨r, Finset.mem_filter.2 ⟨Finset.mem_univ r, hr⟩, er.trans e⟩)

/-! ## The two ways to sum the similarity terms -/

/-- One for a last occurrence, zero otherwise. -/
def weight (i : Fin B → Fin N) (q : Fin B) : EReal := if Last i q then 1 else 0

/-- The weights sum to the number of last occurrences. -/
theorem sum_weight (i : Fin B → Fin N) :
    ∑ q, weight i q = (((Finset.univ.filter fun q => Last i q).card : ℝ) : EReal) := by
  simp only [weight]
  rw [Finset.sum_boole]
  simp

/-- The sum of all the terms, a constant `a` at every row that no index names, is the sum over the last occurrences
    of the columns' sums plus the constant times the number of pairs left. -/
theorem total_eq (i : Fin 1024 → Fin 100000) (f : Fin 1024 → Fin 100000 → EReal) (a : ℝ)
    (h : ∀ b n, (∀ q, i q ≠ n) → f b n = (a : EReal)) :
    (∑ b, ∑ n, f b n)
      = (((102400000 : ℝ) : EReal) - (∑ q, weight i q) * ((1024 : ℝ) : EReal)) * (a : EReal)
        + ∑ q, (∑ b, f b (i q)) * weight i q := by
  have hc : ∀ n, (∀ q, i q ≠ n) → ∑ b, f b n = ((1024 * a : ℝ) : EReal) := fun n hn => by
    rw [Finset.sum_congr rfl fun b _ => h b n hn, Finset.sum_const, Finset.card_univ, Fintype.card_fin, EReal.coe_mul,
      ← EReal.coe_nsmul, nsmul_eq_mul, EReal.coe_mul]
    norm_num
  have hw : (∑ q, (∑ b, f b (i q)) * weight i q) = ∑ q, if Last i q then (∑ b, f b (i q)) else 0 :=
    Finset.sum_congr rfl fun q _ => by
      unfold weight; split <;> simp
  rw [Finset.sum_comm, sum_split i (fun n => ∑ b, f b n) _ hc, sum_weight, hw, add_comm]
  congr 1
  have hle : (Finset.univ.filter fun q => Last i q).card ≤ 100000 :=
    (Finset.card_le_univ _).trans (by rw [Fintype.card_fin]; norm_num)
  rw [← EReal.coe_mul, ← EReal.coe_sub, ← EReal.coe_mul, ← EReal.coe_nsmul]
  refine congrArg _ ?_
  rw [nsmul_eq_mul, Nat.cast_sub hle]
  push_cast
  ring

end Cert.Value

end
-- ==== Proof.Value.Spec.lean ====
/- The three losses as closed terms over the extended reals: as the reference sums them, over every row of the updated
   table, and as the kernel does, over the rows that the batch names. Then their equality, where the table's rows start
   at zero and the label rows are one-hot. -/
module

public import proofs.«01_k».proof.Proof.Value.Model
public import Idealize.ShloMosaic.Lib.Pointwise

@[expose] public section

noncomputable section

namespace Cert.Value

open Idealize.ShloMosaic Idealize.ShloMosaic.Pointwise
open scoped BigOperators

/-- A matrix of extended reals. -/
abbrev Mat (a b : ℕ) : Type := (⟨2, ![a, b]⟩ : Shape).Idx → EReal

/-- The quantization loss: the mean squared distance of the batch from its signs. -/
def qua (x : Mat 1024 64) : EReal :=
  Ideal.div (∑ b : Fin 1024, ∑ k : Fin 64, (x (ix2 b k) - Ideal.sign (x (ix2 b k))) * (x (ix2 b k) - Ideal.sign (x (ix2 b k))))
    (Ideal.ofBits .f32 0x47800000#32)

/-- The total from the similarity loss and the quantization loss. -/
def total (s q : EReal) : EReal := s + Ideal.ofBits .f32 0x3DCCCCCD#32 * q

/-- The similarity loss as the reference takes it: the mean over all pairs of a batch row and a table row. -/
def refSim (x : Mat 1024 64) (oh : Mat 1024 100) (U : Mat 100000 64) (Y : Mat 100000 100) : EReal :=
  Ideal.div (∑ b : Fin 1024, ∑ n : Fin 100000,
      term (∑ k : Fin 64, x (ix2 b k) * U (ix2 n k)) (0 < ∑ c : Fin 100, oh (ix2 b c) * Y (ix2 n c)))
    (Ideal.ofBits .f32 0x4CC35000#32)

/-- The similarity loss as the kernel takes it: log 2 for every pair whose table row no index names, and the pairs of
    the batch with itself, each table row at the last index that names it. -/
def kerSim (x : Mat 1024 64) (oh : Mat 1024 100) (i : Fin 1024 → Fin 100000) (Y : Mat 100000 100) : EReal :=
  Ideal.div ((Ideal.ofBits .f32 0x4CC35000#32 - (∑ q, weight i q) * Ideal.ofBits .f32 0x44800000#32) * ((Real.log 2 : ℝ) : EReal)
      + ∑ q : Fin 1024, (∑ b : Fin 1024, term (∑ k : Fin 64, x (ix2 b k) * x (ix2 q k))
          (∑ c : Fin 100, oh (ix2 b c) * ((c.val : ℝ) : EReal) = ∑ c : Fin 100, ((c.val : ℝ) : EReal) * Y (ix2 (i q) c))) * weight i q)
    (Ideal.ofBits .f32 0x4CC35000#32)

/-! ## One-hot rows -/

/-- A row with one 1 and the rest 0. -/
def OneHot (r : Fin 100 → EReal) : Prop := ∃ c, ∀ k, r k = if k = c then 1 else 0

/-- The label of a one-hot row is where its 1 is. -/
theorem label_left (r : Fin 100 → EReal) (c : Fin 100) (h : ∀ k, r k = if k = c then 1 else 0) :
    ∑ k : Fin 100, r k * ((k.val : ℝ) : EReal) = ((c.val : ℝ) : EReal) := by
  simp only [h, ite_mul, one_mul, zero_mul, Finset.sum_ite_eq', Finset.mem_univ, if_true]

theorem label_right (r : Fin 100 → EReal) (c : Fin 100) (h : ∀ k, r k = if k = c then 1 else 0) :
    ∑ k : Fin 100, ((k.val : ℝ) : EReal) * r k = ((c.val : ℝ) : EReal) := by
  rw [← label_left r c h]
  exact Finset.sum_congr rfl fun k _ => mul_comm _ _

/-- The rows of two one-hot vectors overlap exactly when their labels are equal. -/
theorem overlap (r s : Fin 100 → EReal) (hr : OneHot r) (hs : OneHot s) :
    (∑ k : Fin 100, r k * ((k.val : ℝ) : EReal) = ∑ k : Fin 100, ((k.val : ℝ) : EReal) * s k) ↔ 0 < ∑ k : Fin 100, r k * s k := by
  obtain ⟨c, hc⟩ := hr
  obtain ⟨d, hd⟩ := hs
  rw [label_left r c hc, label_right s d hd]
  have e : ∑ k : Fin 100, r k * s k = if c = d then 1 else 0 := by
    simp only [hc, hd, ite_mul, one_mul, zero_mul, Finset.sum_ite_eq', Finset.mem_univ, if_true]
  rw [e, EReal.coe_eq_coe_iff, Nat.cast_inj, ← Fin.ext_iff]
  by_cases h : c = d
  · simp [h]
  · simp [h]

/-- A similarity term depends only on whether its pair is similar. -/
theorem term_iff {t : EReal} {p p' : Prop} [Decidable p] [Decidable p'] (h : p ↔ p') : term t p = term t p' := by
  unfold term
  by_cases hp : p
  · rw [if_pos hp, if_pos (h.1 hp)]
  · rw [if_neg hp, if_neg fun q => hp (h.2 q)]

/-- **The two similarity losses are equal**: the updated table `U` holds, at a row that indices name, the batch row of
    the last of them, and zeros at every other row; the label rows are one-hot. -/
theorem refSim_eq_kerSim (x : Mat 1024 64) (oh : Mat 1024 100) (U : Mat 100000 64) (Y : Mat 100000 100) (i : Fin 1024 → Fin 100000)
    (hnamed : ∀ q, Last i q → ∀ k, U (ix2 (i q) k) = x (ix2 q k)) (hfree : ∀ n, (∀ q, i q ≠ n) → ∀ k, U (ix2 n k) = 0)
    (hoh : ∀ b, OneHot fun c => oh (ix2 b c)) (hY : ∀ n, OneHot fun c => Y (ix2 n c)) :
    refSim x oh U Y = kerSim x oh i Y := by
  unfold refSim kerSim
  refine congrArg₂ Ideal.div ?_ rfl
  rw [total_eq i (fun b n => term (∑ k : Fin 64, x (ix2 b k) * U (ix2 n k)) (0 < ∑ c : Fin 100, oh (ix2 b c) * Y (ix2 n c))) (Real.log 2) (by
    intro b n hn
    have e : ∑ k : Fin 64, x (ix2 b k) * U (ix2 n k) = 0 :=
      Finset.sum_eq_zero fun k _ => by rw [hfree n hn k, mul_zero]
    rw [e, term_zero]), pairs, rows]
  refine congrArg₂ (· + ·) rfl (Finset.sum_congr rfl fun q _ => ?_)
  by_cases hq : Last i q
  · refine congrArg₂ (· * ·) (Finset.sum_congr rfl fun b _ => ?_) rfl
    have e : ∑ k : Fin 64, x (ix2 b k) * U (ix2 (i q) k) = ∑ k : Fin 64, x (ix2 b k) * x (ix2 q k) :=
      Finset.sum_congr rfl fun k _ => by rw [hnamed q hq k]
    rw [e]
    exact term_iff (overlap _ _ (hoh b) (hY (i q))).symm
  · rw [weight, if_neg hq, mul_zero, mul_zero]

end Cert.Value
-- ==== Proof.Value.Drawn.lean ====
/- What the precondition on the drawn inputs says of them: the table of codes is zero, and the label rows of the batch
   and of the table are one-hot. -/
module

public import proofs.«01_k».proof.Proof.Frames
public import proofs.«01_k».proof.Proof.Value.Spec
public import Idealize.ShloMosaic.Lib.IndicatorCount

@[expose] public section

set_option maxRecDepth 16384

noncomputable section

namespace Cert.Value

open Idealize.ShloMosaic Idealize.ShloMosaic.TcCoe Idealize.ShloMosaic.Pointwise
open Cert.Proof
open scoped BigOperators

/-- Zeros and ones with a single one are a one-hot row. -/
theorem oneHot_of_count (r : Fin 100 → EReal) (h01 : ∀ k, r k = 0 ∨ r k = 1)
    (hcard : (Finset.univ.filter fun k : Fin 100 => r k = 1).card = 1) : OneHot r := by
  obtain ⟨c, hc⟩ := Finset.card_eq_one.1 hcard
  refine ⟨c, fun k => ?_⟩
  have hk : k ∈ (Finset.univ.filter fun k : Fin 100 => r k = 1) ↔ k = c := by rw [hc, Finset.mem_singleton]
  rw [Finset.mem_filter] at hk
  by_cases h : k = c
  · rw [if_pos h]
    exact (hk.2 h).2
  · rw [if_neg h]
    exact (h01 k).resolve_right fun h1 => h (hk.1 ⟨Finset.mem_univ _, h1⟩)

/-- The sum of a row of bits, as words, is the number of ones in the row. -/
theorem count_row {N : ℕ} {u : Shape} (M : (⟨2, ![N, 100]⟩ : Shape).Idx → BitVec 1)
    (h : (⟨2, ![N, 100]⟩ : Shape).ReducesTo [1] ⟨1, ![N]⟩) (hu : 0 < u.numel) (hlt : 1 < 32) (b : Fin N) :
    Host.reduce IntOp.addi (extui 32 M hlt) (constantI u 32 0#32) h hu (ix1 b)
      = BitVec.ofNat 32 (Finset.univ.filter fun k : Fin 100 => M (ix2 b k) = 1#1).card := by
  have h1 : (⟨2, ![N, 100]⟩ : Shape).Reduces [1] ⟨1, ![N]⟩ := ⟨h.1, Nat.one_pos, h.2⟩
  rw [Host.reduce_eq_fold_single IntOp.addi _ _ h h1 hu]
  refine Eq.trans ?_ (IndicatorCount.fold_addi_setWidth_eq_card (w := 32) (fun k : Fin 100 => M (ix2 b k)) Finset.univ)
  refine congrArg (fun f => Finset.fold IntOp.addi 0#32 f Finset.univ) (funext fun k => ?_)
  show (M (h1.lift (ix1 b) k)).setWidth 32 = (M (ix2 b k)).setWidth 32
  refine congrArg (fun j => (M j).setWidth 32) (funext fun a => ?_)
  match a with
  | ⟨0, _⟩ => rfl
  | ⟨1, _⟩ => rfl

/-- Rows whose entries are zero or one, and whose ones number one, are one-hot. -/
theorem oneHot_rows {N : ℕ} {u : Shape} (Y : Mat N 100)
    (h : (⟨2, ![N, 100]⟩ : Shape).ReducesTo [1] ⟨1, ![N]⟩) (hu : 0 < u.numel) (hlt : 1 < 32) (b : Fin N)
    (h01 : ∀ k : Fin 100, IntOp.ori (Ideal.cmp .oeq (Y (ix2 b k)) (Ideal.ofBits .f32 0x00000000#32)) (Ideal.cmp .oeq (Y (ix2 b k)) (Ideal.ofBits .f32 0x3F800000#32)) = 1#1)
    (hsum : IntOp.cmpi .eq (Host.reduce IntOp.addi (extui 32 (fun j => Ideal.cmp .oeq (Y j) (Ideal.ofBits .f32 0x3F800000#32)) hlt) (constantI u 32 0#32) h hu (ix1 b)) 1#32 = 1#1) :
    OneHot fun k => Y (ix2 b k) := by
  refine oneHot_of_count _ (fun k => ?_) ?_
  · have e := h01 k
    rw [Ideal.cmp, Ideal.cmp, ori_bits, bit_true, Bool.or_eq_true, decide_eq_true_eq, decide_eq_true_eq, Ideal.ofBits_zero_f32, Ideal.ofBits_one_f32] at e
    exact e
  · rw [count_row] at hsum
    have e : BitVec.ofNat 32 (Finset.univ.filter fun k : Fin 100 => Ideal.cmp .oeq (Y (ix2 b k)) (Ideal.ofBits .f32 0x3F800000#32) = 1#1).card = 1#32 := by
      simpa [IntOp.cmpi, bit_true] using hsum
    have hle : (Finset.univ.filter fun k : Fin 100 => Ideal.cmp .oeq (Y (ix2 b k)) (Ideal.ofBits .f32 0x3F800000#32) = 1#1).card ≤ 100 :=
      (Finset.card_filter_le _ _).trans (by rw [Finset.card_univ, Fintype.card_fin])
    have e1 : (Finset.univ.filter fun k : Fin 100 => Ideal.cmp .oeq (Y (ix2 b k)) (Ideal.ofBits .f32 0x3F800000#32) = 1#1)
        = Finset.univ.filter fun k : Fin 100 => Y (ix2 b k) = 1 :=
      Finset.filter_congr fun k _ => by rw [Ideal.cmp, bit_true, decide_eq_true_eq, Ideal.ofBits_one_f32]
    rw [e1] at e hle
    have e2 := congrArg BitVec.toNat e
    rw [BitVec.toNat_ofNat, BitVec.toNat_ofNat] at e2
    omega

section
attribute [local instance] rangeFacts drawnFacts Cert.KernelIdeal.Gen.facts Cert.ReferenceIdeal.Gen.facts

variable (m : (ℓ : Loc Cert.KernelIdeal.nD Cert.KernelIdeal.τ Cert.KernelIdeal.sig) → Buf (Elt Ideal) ℓ)
  (h : Cert.Pre_KernelIdeal_drawn m) (c : Dev Cert.KernelIdeal.nD)
include h

/-- The table of codes is zero. -/
theorem drawn_codes (j : Cert.KernelIdeal.S100000x64.Idx) :
    m ((c.tc : Thread Cert.KernelIdeal.nD Cert.KernelIdeal.τ).loc Cert.KernelIdeal.main_arg5) j = (0 : EReal) := by
  have e := congrFun (h c).2.1 j
  simp only [Pre_drawn.fn, Pre_drawn.fn_part1] at e
  have e' : Ideal.cmp .oeq (m ((c.tc : Thread Cert.KernelIdeal.nD Cert.KernelIdeal.τ).loc Cert.KernelIdeal.main_arg5) j) (Ideal.ofBits .f32 0x00000000#32) = 1#1 := e
  rw [Ideal.cmp, bit_true, decide_eq_true_eq, Ideal.ofBits_zero_f32] at e'
  exact e'

/-- The batch's label rows are one-hot. -/
theorem drawn_batch (b : Fin 1024) :
    OneHot fun k => (m ((c.tc : Thread Cert.KernelIdeal.nD Cert.KernelIdeal.τ).loc Cert.KernelIdeal.main_arg2) (ix2 b k) : EReal) := by
  refine oneHot_rows _ Pre_drawn.Facts.reducesTo_S1024x100_S1024_d1 Pre_drawn.Facts.h_S_ Pre_drawn.Facts.natLt_1_32 b (fun k => ?_) ?_
  · have e := congrFun (h c).2.2.1 (ix2 b k)
    simp only [Pre_drawn.fn, Pre_drawn.fn_part1] at e
    exact e
  · have e := congrFun (h c).2.2.2.1 (ix1 b)
    simp only [Pre_drawn.fn, Pre_drawn.fn_part1] at e
    exact e

/-- The table's label rows are one-hot. -/
theorem drawn_table (n : Fin 100000) :
    OneHot fun k => (m ((c.tc : Thread Cert.KernelIdeal.nD Cert.KernelIdeal.τ).loc Cert.KernelIdeal.main_arg6) (ix2 n k) : EReal) := by
  refine oneHot_rows _ Pre_drawn.Facts.reducesTo_S100000x100_S100000_d1 Pre_drawn.Facts.h_S_ Pre_drawn.Facts.natLt_1_32 n (fun k => ?_) ?_
  · have e := congrFun (h c).2.2.2.2.1 (ix2 n k)
    simp only [Pre_drawn.fn, Pre_drawn.fn_part1] at e
    exact e
  · have e := congrFun (h c).2.2.2.2.2 (ix1 n)
    simp only [Pre_drawn.fn, Pre_drawn.fn_part1] at e
    exact e

end

end Cert.Value
-- ==== Proof.Value.Scatter.lean ====
/- A scatter that sets rows, read at an entry: of the updates that name the entry's row the last one stands, and a row
   that no update names keeps what it held. -/
module

public import Idealize.ShloMosaic.Lib.Routing.OpsSet
public import Idealize.ShloMosaic.Lib.Routing.OpsPair
public import Idealize.ShloMosaic.Lib.Routing.OpsOrder

@[expose] public section

namespace Cert.Value

open Idealize.ShloMosaic Idealize.ShloMosaic.ValueIdx Idealize.ShloMosaic.Routing

/-- A fold over an increasing list that takes a value at each hit, where nothing from here on hits: the value it started with. -/
theorem fold_none {ι α : Type} (hit : ι → Prop) [DecidablePred hit] (val : ι → α) :
    ∀ (l : List ι), (∀ e ∈ l, ¬ hit e) → ∀ a, l.foldl (fun a e => if hit e then val e else a) a = a
  | [], _, _ => rfl
  | e :: l, h, a => by
    rw [List.foldl_cons, if_neg (h e List.mem_cons_self)]
    exact fold_none hit val l (fun e' he' => h e' (List.mem_cons_of_mem _ he')) a

/-- Such a fold ends with the value at the last hit. -/
theorem fold_last {M : ℕ} {α : Type} (hit : Fin M → Prop) [DecidablePred hit] (val : Fin M → α) (n : Fin M) (hn : hit n)
    (hlast : ∀ r, n < r → ¬ hit r) :
    ∀ (l : List (Fin M)), l.Pairwise (· < ·) → n ∈ l → ∀ a, l.foldl (fun a e => if hit e then val e else a) a = val n
  | [], _, h, _ => nomatch h
  | e :: l, hl, h, a => by
    rw [List.foldl_cons]
    rcases List.mem_cons.1 h with rfl | h
    · rw [if_pos hn]
      exact fold_none hit val l (fun r hr => hlast r ((List.pairwise_cons.1 hl).1 r hr)) _
    · exact fold_last hit val n hn hlast l (List.pairwise_cons.1 hl).2 h _

/-- Entry `k` of update row `q` lands at entry `e` of row `n` exactly when the update's index word, read signed, is `n`, and `k` is `e`. -/
theorem lands_row {N W U : ℕ} (d : ScatterDims (shape2 N W) (shape2 U 1) (shape2 U W)) (huw : d.updateWindowDims = [1])
    (hiw : d.insertedWindowDims = [0]) (hsd : d.scatterDimsToOperandDims = [0]) (hivd : d.indexVectorDim = 1)
    (idx : IVec (shape2 U 1) 32) (q : Fin U) (k : Fin W) (n : Fin N) (e : Fin W) :
    d.resultIdx? (ix2 q k) idx = some (ix2 n e) ↔ (idx (ix2 q (0 : Fin 1))).toInt = (n.val : Int) ∧ k = e := by
  have hm : (0 : Fin 2) ∈ d.scatterDimsToOperandDims := by rw [hsd]; exact List.mem_singleton.2 rfl
  have pick : ∀ (l : List (Fin 2)) (p : ℕ) (h : p < l.length) (x : Fin 2), l = [x] → l[p]'h = x := by
    intro l p h x hl
    subst hl
    obtain rfl : p = 0 := by simpa using h
    rfl
  have hkept : d.sKept = [1] := by
    show (shape2 N W).kept d.insertedWindowDims = _
    rw [hiw]
    rfl
  have hscat : d.uScatter = [0] := by
    show (shape2 U W).kept d.updateWindowDims = _
    rw [huw]
    rfl
  have hwin0 : d.window (ix2 q k) 0 = 0 := by
    unfold ScatterDims.window
    rw [dif_neg (by rw [hkept]; exact (by decide : (0 : Fin 2) ∉ [(1 : Fin 2)]))]
  have hwin1 : d.window (ix2 q k) 1 = k.val := by
    unfold ScatterDims.window
    rw [dif_pos (by rw [hkept]; exact List.mem_singleton.2 rfl), pick _ _ _ 1 huw]
  have hstart1 : d.start (ix2 q k) idx 1 = 0 := by
    unfold ScatterDims.start
    rw [dif_neg (by rw [hsd]; exact (by decide : (1 : Fin 2) ∉ [(0 : Fin 2)]))]
  have hstart0 : d.start (ix2 q k) idx 0 = (idx (ix2 q (0 : Fin 1))).toInt := by
    unfold ScatterDims.start
    rw [dif_pos hm]
    have hsi : d.siIdx (ix2 q k) ⟨d.scatterDimsToOperandDims.idxOf 0, List.idxOf_lt_length_iff.2 hm⟩ = ix2 q (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        rw [pick _ _ _ 0 hscat]
      | ⟨1, _⟩ =>
        unfold ScatterDims.siIdx
        rw [dif_pos (by rw [hivd])]
        show List.idxOf (0 : Fin 2) d.scatterDimsToOperandDims = 0
        rw [hsd]; rfl
    rw [hsi]
  rw [resultIdx?_ix2, hstart0, hwin0, hstart1, hwin1, Fin.ext_iff]
  omega

/-- **The last row that names `n` stands**: the index word of update row `q` is `n`, and no later row's is. -/
theorem scatter_row_last {α : Type} {N W U : ℕ} (d : ScatterDims (shape2 N W) (shape2 U 1) (shape2 U W)) (huw : d.updateWindowDims = [1])
    (hiw : d.insertedWindowDims = [0]) (hsd : d.scatterDimsToOperandDims = [0]) (hivd : d.indexVectorDim = 1)
    (x : (shape2 N W).Idx → α) (idx : IVec (shape2 U 1) 32) (upd : (shape2 U W).Idx → α) (n : Fin N) (q : Fin U)
    (hq : (idx (ix2 q (0 : Fin 1))).toInt = (n.val : Int)) (hlast : ∀ r, q < r → (idx (ix2 r (0 : Fin 1))).toInt ≠ (n.val : Int)) (k : Fin W) :
    Host.scatter d (fun _ b => b) x idx upd (ix2 n k) = upd (ix2 q k) := by
  rw [← scatterIn_finRange, scatterIn_at]
  have key := fold_last (fun e => d.resultIdx? ((shape2 U W).rowMajor.symm e) idx = some (ix2 n k)) (fun e => upd ((shape2 U W).rowMajor.symm e))
    ((shape2 U W).rowMajor (ix2 q k)) (by
      rw [Equiv.symm_apply_apply]
      exact (lands_row d huw hiw hsd hivd idx q k n k).2 ⟨hq, rfl⟩) (fun e he hit => by
      obtain ⟨j, rfl⟩ := (shape2 U W).rowMajor.surjective e
      rw [Equiv.symm_apply_apply, eq_ix2 j] at hit
      have hl := (lands_row d huw hiw hsd hivd idx (j 0) (j 1) n k).1 hit
      refine hlast (j 0) ?_ hl.1
      have hv : ((shape2 U W).rowMajor (ix2 q k)).val < ((shape2 U W).rowMajor j).val := he
      rw [Shape.rowMajor_val_two, Shape.rowMajor_val_two] at hv
      have h1 : (j 1).val = k.val := congrArg Fin.val hl.2
      show q.val < (j 0).val
      have hv' : q.val * W + k.val < (j 0).val * W + (j 1).val := hv
      rw [h1] at hv'
      exact lt_of_mul_lt_mul_right (Nat.lt_of_add_lt_add_right hv') (Nat.zero_le W))
    (List.finRange (shape2 U W).numel) (List.pairwise_lt_finRange _) (List.mem_finRange _) (x (ix2 n k))
  rw [Equiv.symm_apply_apply] at key
  exact key

/-- **A row that no update names keeps its entries.** -/
theorem scatter_row_none {α : Type} {N W U : ℕ} (d : ScatterDims (shape2 N W) (shape2 U 1) (shape2 U W)) (huw : d.updateWindowDims = [1])
    (hiw : d.insertedWindowDims = [0]) (hsd : d.scatterDimsToOperandDims = [0]) (hivd : d.indexVectorDim = 1)
    (x : (shape2 N W).Idx → α) (idx : IVec (shape2 U 1) 32) (upd : (shape2 U W).Idx → α) (n : Fin N)
    (hno : ∀ r, (idx (ix2 r (0 : Fin 1))).toInt ≠ (n.val : Int)) (k : Fin W) :
    Host.scatter d (fun _ b => b) x idx upd (ix2 n k) = x (ix2 n k) :=
  scatter_set_miss d x idx upd _ fun j hj => by
    rw [eq_ix2 j] at hj
    exact hno _ ((lands_row d huw hiw hsd hivd idx (j 0) (j 1) n k).1 hj).1

end Cert.Value
-- ==== Proof.Value.RefValue.lean ====
/- The reference's result read at its three places: the losses of `Spec`, over the table as the reference updates it,
   and that table read at a row. -/
module

public import proofs.«01_k».proof.Proof.Gen.ReferenceIdeal.Run
public import proofs.«01_k».proof.Proof.Value.Spec
public import proofs.«01_k».proof.Proof.Value.Scatter

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Pointwise
open scoped BigOperators

/-- The table after the batch is stored at its indices. -/
def table (x : Mat 1024 64) (idx : S1024.Idx → BitVec 32) (u : Mat 100000 64) : Mat 100000 64 :=
  Host.scatter scatter_S100000x64_S1024x1_S1024x64_1_0_0_1 (fun _ b => b) u
    (broadcastInDim S1024x1 ![0] bcast_S1024_S1024x1_0 (select (cmpi .slt idx (broadcastInDim S1024 ![] bcast_S_S1024 (constantI S_ 32 0#32)))
      (addi idx (broadcastInDim S1024 ![] bcast_S_S1024 (constantI S_ 32 100000#32))) idx)) x

/-- One pair's term as the reference computes it. -/
theorem pair_term (t : EReal) (p : Prop) [Decidable p] :
    (if clip t ≠ clip t then clip t else max (clip t) 0 + Ideal.log1p (Ideal.exp (-(FloatOps.absf (F := Ideal) (φ := .f32) (clip t) : EReal))))
      - (FloatOps.uitofp (F := Ideal) FTy.f32 (BitVec.ofBool (decide p)) : EReal) * clip t = term t p := by
  rw [if_neg (not_not_intro rfl)]
  unfold term softplus
  refine congrArg₂ (fun v w : EReal => v - w) rfl ?_
  by_cases hp : p
  · rw [if_pos hp, decide_eq_true hp]
    show (((1 : ℕ) : ℝ) : EReal) * clip t = clip t
    rw [Nat.cast_one, EReal.coe_one, one_mul]
  · rw [if_neg hp, decide_eq_false hp]
    show (((0 : ℕ) : ℝ) : EReal) * clip t = 0
    rw [Nat.cast_zero, EReal.coe_zero, zero_mul]

section
variable (m : (ℓ : Loc nD τ sig) → Buf (Elt Ideal) ℓ) (c : Dev nD)

/-- The similarity loss of the reference's arguments, -/
abbrev simOf : EReal :=
  refSim (m ((c.tc : Thread nD τ).loc main_arg0)) (m ((c.tc : Thread nD τ).loc main_arg2))
    (table (m ((c.tc : Thread nD τ).loc main_arg0)) (m ((c.tc : Thread nD τ).loc main_arg3)) (m ((c.tc : Thread nD τ).loc main_arg5)))
    (m ((c.tc : Thread nD τ).loc main_arg6))

/-- The second place holds the similarity loss, -/
theorem out_sim : res_out0 (F := Ideal) m c (ix1 1) = simOf m c := by
  unfold simOf table res_out0 res_main_v32
  generalize Host.scatter _ _ _ _ _ = U
  pointwise
  refine congrArg₂ Ideal.div (Finset.sum_congr rfl fun b _ => Finset.sum_congr rfl fun n _ => ?_) rfl
  exact pair_term _ _

/-- the third the quantization loss, -/
theorem out_qua : res_out0 (F := Ideal) m c (ix1 2) = qua (m ((c.tc : Thread nD τ).loc main_arg0)) := by
  unfold res_out0 res_main_v32
  pointwise
  rfl

/-- and the first the total. -/
theorem out_total : res_out0 (F := Ideal) m c (ix1 0) = total (simOf m c) (qua (m ((c.tc : Thread nD τ).loc main_arg0))) := by
  unfold simOf table res_out0 res_main_v32
  generalize Host.scatter _ _ _ _ _ = U
  pointwise
  refine congrArg₂ (fun s q => s + Ideal.ofBits .f32 0x3DCCCCCD#32 * q) ?_ rfl
  refine congrArg₂ Ideal.div (Finset.sum_congr rfl fun b _ => Finset.sum_congr rfl fun n _ => ?_) rfl
  exact pair_term _ _

end

/-! ## The table read at a row -/

/-- The index words as the scatter reads them, where every index is a row: the indices themselves. -/
theorem words (idx : S1024.Idx → BitVec 32) (hidx : ∀ j, (idx j).toNat < 100000) (q : Fin 1024) :
    (broadcastInDim S1024x1 ![0] bcast_S1024_S1024x1_0 (select (cmpi .slt idx (broadcastInDim S1024 ![] bcast_S_S1024 (constantI S_ 32 0#32)))
      (addi idx (broadcastInDim S1024 ![] bcast_S_S1024 (constantI S_ 32 100000#32))) idx) (ValueIdx.ix2 q (0 : Fin 1)) : BitVec 32).toInt
      = ((idx (ix1 q)).toNat : Int) := by
  have hq := hidx (ix1 q)
  rw [← ix2_eq_valueIdx]
  pointwise
  have e := Routing.wrap_of_lt (idx (ix1 q)) (IntOp.addi (idx (ix1 q)) 100000#32) (by omega)
  rw [e, BitVec.toInt_eq_toNat_cond, if_pos (by omega)]

/-- A row that the batch names, at the last index that names it: that row of the batch. -/
theorem table_named (x : Mat 1024 64) (idx : S1024.Idx → BitVec 32) (u : Mat 100000 64) (i : Fin 1024 → Fin 100000)
    (hi : ∀ q, (idx (ix1 q)).toNat = (i q).val) (hidx : ∀ j, (idx j).toNat < 100000) (q : Fin 1024) (hq : Last i q) (k : Fin 64) :
    table x idx u (ix2 (i q) k) = x (ix2 q k) := by
  rw [ix2_eq_valueIdx, ix2_eq_valueIdx]
  exact scatter_row_last scatter_S100000x64_S1024x1_S1024x64_1_0_0_1 rfl rfl rfl rfl u _ x (i q) q
    (by rw [words idx hidx, hi]) (fun r hr e => hq r hr (by
      rw [words idx hidx, hi] at e
      exact Fin.ext (by exact_mod_cast e))) k

/-- A row that no index names: as it was. -/
theorem table_free (x : Mat 1024 64) (idx : S1024.Idx → BitVec 32) (u : Mat 100000 64) (i : Fin 1024 → Fin 100000)
    (hi : ∀ q, (idx (ix1 q)).toNat = (i q).val) (hidx : ∀ j, (idx j).toNat < 100000) (n : Fin 100000) (hn : ∀ q, i q ≠ n) (k : Fin 64) :
    table x idx u (ix2 n k) = u (ix2 n k) := by
  rw [ix2_eq_valueIdx]
  exact scatter_row_none scatter_S100000x64_S1024x1_S1024x64_1_0_0_1 rfl rfl rfl rfl u _ x n (fun r e => hn r (by
    rw [words idx hidx, hi] at e
    exact Fin.ext (by exact_mod_cast e))) k

end Cert.ReferenceIdeal.Value
-- ==== Proof.Value.KernelValue.lean ====
/- The kernel's result read at its three places: the losses of `Spec`, from the batch, its label rows, the indices and
   the table's label rows. -/
module

public import proofs.«01_k».proof.Proof.KernelIdeal.Main
public import proofs.«01_k».proof.Proof.Value.Spec

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe Idealize.ShloMosaic.Pointwise
open scoped BigOperators

/-! ## Words as numbers -/

/-- A small number as a word, read signed, is the number. -/
theorem word_real (n : ℕ) (h : n < 2 ^ 31) : (FloatOps.sitofp (F := Ideal) FTy.f32 (BitVec.ofNat 32 n) : EReal) = ((n : ℝ) : EReal) := by
  show (((BitVec.ofNat 32 n).toInt : ℝ) : EReal) = _
  rw [show (BitVec.ofNat 32 n).toInt = (n : ℤ) by
    rw [BitVec.toInt_eq_toNat_cond, BitVec.toNat_ofNat, Nat.mod_eq_of_lt (by omega), if_pos (by omega)], Int.cast_natCast]

/-- Two small words are equal as numbers exactly when they are equal. -/
theorem word_eq (v w : BitVec 32) (hv : v.toNat < 100000) (hw : w.toNat < 100000) :
    (FloatOps.sitofp (F := Ideal) FTy.f32 v : EReal) = FloatOps.sitofp (F := Ideal) FTy.f32 w ↔ v.toNat = w.toNat := by
  show (((v.toInt : ℝ) : EReal)) = ((w.toInt : ℝ) : EReal) ↔ _
  rw [EReal.coe_eq_coe_iff, Int.cast_inj, BitVec.toInt_eq_toNat_cond, BitVec.toInt_eq_toNat_cond, if_pos (by omega), if_pos (by omega)]
  exact Nat.cast_inj

/-- The signed comparison of two positions below 1024, the second with zero added, is theirs as numbers. -/
theorem word_sgt (r q : Fin 1024) :
    IntOp.cmpi .sgt (BitVec.ofNat 32 r.val) (IntOp.addi (BitVec.ofNat 32 q.val) (Scalar.muli 0#32 1024#32)) = BitVec.ofBool (decide (q < r)) := by
  have hr := r.isLt
  have hq := q.isLt
  have e : IntOp.addi (BitVec.ofNat 32 q.val) (Scalar.muli 0#32 1024#32) = BitVec.ofNat 32 q.val := by
    show BitVec.ofNat 32 q.val + 0#32 * 1024#32 = _
    rw [BitVec.zero_mul, BitVec.add_zero]
  have small : ∀ n : ℕ, n < 1024 → (BitVec.ofNat 32 n).toInt = (n : ℤ) := fun n hn => by
    rw [BitVec.toInt_eq_toNat_cond, BitVec.toNat_ofNat, Nat.mod_eq_of_lt (by omega), if_pos (by omega)]
  rw [e]
  show BitVec.ofBool (BitVec.slt (BitVec.ofNat 32 q.val) (BitVec.ofNat 32 r.val)) = _
  rw [BitVec.slt_eq_decide, small _ hr, small _ hq]
  exact congrArg BitVec.ofBool (decide_eq_decide.2 (by rw [Nat.cast_lt]; exact Iff.rfl))

/-! ## The greatest of indicators -/

/-- The greatest of zeros and ones over a range that is not empty, from -∞: one if there is a one. -/
theorem fold_indicator (p : Fin 1024 → Prop) [DecidablePred p] :
    (Finset.univ : Finset (Fin 1024)).fold max (⊥ : EReal) (fun r => if p r then 1 else 0) = if ∃ r, p r then 1 else 0 := by
  by_cases h : ∃ r, p r
  · rw [if_pos h]
    obtain ⟨r, hr⟩ := h
    refine le_antisymm ((Finset.fold_max_le _).2 ⟨bot_le, fun s _ => ?_⟩) ((Finset.le_fold_max _).2 (.inr ⟨r, Finset.mem_univ _, ?_⟩))
    · split
      · exact le_rfl
      · exact zero_le_one
    · rw [if_pos hr]
  · rw [if_neg h]
    refine le_antisymm ((Finset.fold_max_le _).2 ⟨bot_le, fun s _ => ?_⟩) ((Finset.le_fold_max _).2 (.inr ⟨0, Finset.mem_univ _, ?_⟩))
    · rw [if_neg fun hs => h ⟨s, hs⟩]
    · rw [if_neg fun hs => h ⟨0, hs⟩]

/-- A choice on a bit that is a truth value. -/
theorem select_both (p q : Prop) [Decidable p] [Decidable q] :
    (Scalar.select (IntOp.andi (BitVec.ofBool (decide p)) (BitVec.ofBool (decide q))) (1 : EReal) 0) = if p ∧ q then 1 else 0 := by
  by_cases hp : p <;> by_cases hq : q <;> simp [hp, hq, IntOp.andi, Scalar.select]

theorem minus_infinity : Ideal.ofBits .f32 0xFF800000#32 = ⊥ := by simp [Ideal.ofBits, Ideal.ieee]

/-! ## The payloads -/

/-- The labels of the table's rows. -/
theorem labels_row (v : Mat 100 100000) (n : Fin 100000) :
    (k0_pay1 (F := Ideal) v (ix2 0 n) : EReal) = ∑ c : Fin 100, (((c.val : ℝ) : EReal)) * v (ix2 c n) := by
  pointwise [k0_pay1]
  exact Finset.sum_congr rfl fun c _ => by rw [word_real c.val (by omega)]

/-- The equality mask of the indices. -/
theorem mask_at (x : Mat 1024 1) (y : Mat 1 1024) (r q : Fin 1024) :
    k2_pay6 (F := Ideal) x y (ix2 r q) = BitVec.ofBool (decide (x (ix2 r 0) = y (ix2 0 q))) := by
  pointwise [k2_pay6]

/-- The weight of each index: one at its last occurrence. -/
theorem weight_at (i : Fin 1024 → Fin 100000) (v : S1024x1024.Idx → BitVec 1) (hv : ∀ r q, v (ix2 r q) = BitVec.ofBool (decide (i r = i q)))
    (q : Fin 1024) : (k2_pay1 (F := Ideal) 0#32 v (ix2 0 q) : EReal) = weight i q := by
  pointwise [k2_pay1]
  simp only [hv, word_sgt, select_both, minus_infinity]
  rw [fold_indicator, weight]
  by_cases h : Last i q
  · rw [if_pos h, if_neg fun ⟨r, hr⟩ => h r hr.2 hr.1, sub_zero]
  · rw [if_neg h, if_pos (by
      simp only [Last, not_forall, not_not] at h
      obtain ⟨r, hr, he⟩ := h
      exact ⟨r, he, hr⟩)]
    rw [← EReal.coe_one, ← EReal.coe_sub, sub_self, EReal.coe_zero]

/-- The sum over the batch of the terms of one row of the batch. -/
theorem terms_at (x y : Mat 1024 64) (oh : Mat 1024 100) (lab : Mat 1 1024) (q : Fin 1024) :
    (k2_pay5 (F := Ideal) x y oh lab (ix2 0 q) : EReal)
      = ∑ b : Fin 1024, term (∑ k : Fin 64, x (ix2 b k) * y (ix2 q k)) (∑ c : Fin 100, oh (ix2 b c) * ((c.val : ℝ) : EReal) = lab (ix2 0 q)) := by
  pointwise [k2_pay5]
  refine Finset.sum_congr rfl fun b _ => ?_
  have e : ∑ c : Fin 100, oh (ix2 b c) * (FloatOps.sitofp (F := Ideal) FTy.f32 (BitVec.ofNat 32 c.val) : EReal)
      = ∑ c : Fin 100, oh (ix2 b c) * ((c.val : ℝ) : EReal) :=
    Finset.sum_congr rfl fun c _ => by rw [word_real c.val (by omega)]
  rw [zero_sub, Ideal.absf_def]
  simp only [e]
  rfl

/-- The weighted sum of a row, added to what was there, -/
theorem weighted_sum (w : Mat 1 1024) (v : S1024x1024.Idx → BitVec 1) (z : Elt Ideal .f32) :
    (k2_pay2 (F := Ideal) 0#32 w v z : EReal) = z + ∑ q : Fin 1024, w (ix2 0 q) * k2_pay1 (F := Ideal) 0#32 v (ix2 0 q) := by
  pointwise [k2_pay2]
  simp only [Finset.univ_unique, Finset.sum_singleton]

/-- and the sum of the weights. -/
theorem weights_sum (v : S1024x1024.Idx → BitVec 1) (z : Elt Ideal .f32) :
    (k2_pay3 (F := Ideal) 0#32 v z : EReal) = z + ∑ q : Fin 1024, (k2_pay1 (F := Ideal) 0#32 v (ix2 0 q) : EReal) := by
  pointwise [k2_pay3]
  simp only [Finset.univ_unique, Finset.sum_singleton]

/-- The similarity loss from the two sums. -/
def simFrom (a b : EReal) : EReal :=
  Ideal.div ((Ideal.ofBits .f32 0x4CC35000#32 - b * Ideal.ofBits .f32 0x44800000#32) * ((Real.log 2 : ℝ) : EReal) + a) (Ideal.ofBits .f32 0x4CC35000#32)

/-- The sign as the kernel takes it. -/
theorem sign_at (a : EReal) :
    (if 0 < (FloatOps.absf (F := Ideal) (φ := .f32) a : EReal) then if a < 0 then Ideal.ofBits .f32 0xBF800000#32 else 1 else a) = Ideal.sign a := by
  rw [← Ideal.jnp_sign_eq_sign_f32 a]
  pointwise

theorem log_two : (Named.named (F := Ideal) κ "log2" (φ := .f32) 0x3F317218#32 : EReal) = ((Real.log 2 : ℝ) : EReal) := by
  simp [Named.named, κ]

/-- The losses' row at its first three places. -/
theorem row_sim (x : Mat 1024 64) (a b : EReal) : (k2_pay4 (F := Ideal) x a b (ix2 0 1) : EReal) = simFrom a b := by
  pointwise [k2_pay4]
  rw [log_two]
  rfl
theorem row_qua (x : Mat 1024 64) (a b : EReal) : (k2_pay4 (F := Ideal) x a b (ix2 0 2) : EReal) = qua x := by
  pointwise [k2_pay4]
  simp only [sign_at]
  rfl
theorem row_total (x : Mat 1024 64) (a b : EReal) : (k2_pay4 (F := Ideal) x a b (ix2 0 0) : EReal) = total (simFrom a b) (qua x) := by
  pointwise [k2_pay4]
  simp only [sign_at]
  rw [log_two]
  rfl

end Cert.KernelIdeal.Value
-- ==== Proof.Value.KernelOut.lean ====
/- The kernel's three results from its arguments: the payloads of `KernelValue` composed along the program. -/
module

public import proofs.«01_k».proof.Proof.Value.KernelValue

@[expose] public section

set_option maxRecDepth 16384

noncomputable section

namespace Cert.KernelIdeal.Value

open Cert.KernelIdeal Cert.KernelIdeal.Gen Cert.KernelIdeal.Run Cert.Value
open Idealize.ShloMosaic Idealize.ShloMosaic.TcCoe Idealize.ShloMosaic.Pointwise
open scoped BigOperators

section
variable (x : Mat 1024 64) (oh : Mat 1024 100) (idx : S1024.Idx → BitVec 32) (Y : Mat 100000 100) (i : Fin 1024 → Fin 100000)

/-- The losses' row as the kernel stores it. -/
abbrev row : Mat 1 128 :=
  lossRow (F := Ideal) x x oh (shapeCast S1x1024 (labels (F := Ideal) idx Y) shapeCasts_S1024_S1x1024)
    (shapeCast S1024x1 (sitofp (F := Ideal) .f32 idx : FVec Ideal S1024 .f32) shapeCasts_S1024_S1024x1)
    (shapeCast S1x1024 (sitofp (F := Ideal) .f32 idx : FVec Ideal S1024 .f32) shapeCasts_S1024_S1x1024)

/-- The kernel's result is the first three places of the row. -/
theorem out_at : (kernelOut (F := Ideal) x oh idx Y (ix1 0) : EReal) = row x oh idx Y (ix2 0 0)
    ∧ (kernelOut (F := Ideal) x oh idx Y (ix1 1) : EReal) = row x oh idx Y (ix2 0 1)
    ∧ (kernelOut (F := Ideal) x oh idx Y (ix1 2) : EReal) = row x oh idx Y (ix2 0 2) := by
  unfold kernelOut row
  generalize lossRow (F := Ideal) x x oh _ _ _ = R
  refine ⟨?_, ?_, ?_⟩ <;> pointwise

/-- The label that the SparseCore gathers for an index: that of the table's row. -/
theorem label_at (hi : ∀ q, (idx (ix1 q)).toNat = (i q).val) (q : Fin 1024) :
    (shapeCast S1x1024 (labels (F := Ideal) idx Y) shapeCasts_S1024_S1x1024 (ix2 0 q) : EReal)
      = ∑ c : Fin 100, ((c.val : ℝ) : EReal) * Y (ix2 (i q) c) := by
  have e1 : (shapeCast S1x1024 (labels (F := Ideal) idx Y) shapeCasts_S1024_S1x1024 (ix2 0 q) : EReal) = labels (F := Ideal) idx Y (ix1 q) := by
    generalize labels (F := Ideal) idx Y = L
    pointwise
  have e2 : (labels (F := Ideal) idx Y (ix1 q) : EReal)
      = shapeCast S100000 (k0_pay1 (F := Ideal) (transpose S100x100000 [1, 0] Y transposes_S100000x100_S100x100000_1_0)) shapeCasts_S1x100000_S100000 (ix1 (i q)) := by
    unfold labels gathered
    refine congrArg _ (funext fun a => ?_)
    match a with
    | ⟨0, _⟩ => exact Fin.ext (by
        show (idx (ix1 q)).toNat % 100000 = (i q).val
        rw [hi, Nat.mod_eq_of_lt (i q).isLt])
  have e3 : (shapeCast S100000 (k0_pay1 (F := Ideal) (transpose S100x100000 [1, 0] Y transposes_S100000x100_S100x100000_1_0)) shapeCasts_S1x100000_S100000 (ix1 (i q)) : EReal)
      = k0_pay1 (F := Ideal) (transpose S100x100000 [1, 0] Y transposes_S100000x100_S100x100000_1_0) (ix2 0 (i q)) := by
    generalize k0_pay1 (F := Ideal) _ = L
    pointwise
  rw [e1, e2, e3, labels_row]
  refine Finset.sum_congr rfl fun c _ => congrArg₂ (· * ·) rfl ?_
  pointwise

/-- The equality mask of the indices is that of the rows they name. -/
theorem mask_rows (hi : ∀ q, (idx (ix1 q)).toNat = (i q).val) (r q : Fin 1024) :
    k2_pay6 (F := Ideal) (shapeCast S1024x1 (sitofp (F := Ideal) .f32 idx : FVec Ideal S1024 .f32) shapeCasts_S1024_S1024x1)
      (shapeCast S1x1024 (sitofp (F := Ideal) .f32 idx : FVec Ideal S1024 .f32) shapeCasts_S1024_S1x1024) (ix2 r q)
      = BitVec.ofBool (decide (i r = i q)) := by
  rw [mask_at]
  have hr := hi r
  have hq := hi q
  have e := word_eq (idx (ix1 r)) (idx (ix1 q)) (by omega) (by omega)
  have e1 : (shapeCast S1024x1 (sitofp (F := Ideal) .f32 idx : FVec Ideal S1024 .f32) shapeCasts_S1024_S1024x1 (ix2 r 0) : EReal)
      = FloatOps.sitofp (F := Ideal) FTy.f32 (idx (ix1 r)) := by pointwise
  have e2 : (shapeCast S1x1024 (sitofp (F := Ideal) .f32 idx : FVec Ideal S1024 .f32) shapeCasts_S1024_S1x1024 (ix2 0 q) : EReal)
      = FloatOps.sitofp (F := Ideal) FTy.f32 (idx (ix1 q)) := by pointwise
  refine congrArg BitVec.ofBool (decide_eq_decide.2 ?_)
  rw [e1, e2, e, hr, hq, Fin.ext_iff]

/-- The similarity loss from the kernel's two sums. -/
theorem sums (lab : Mat 1 1024)
    (hlab : ∀ q, lab (ix2 0 q) = ∑ c : Fin 100, ((c.val : ℝ) : EReal) * Y (ix2 (i q) c)) (v : S1024x1024.Idx → BitVec 1)
    (hv : ∀ r q, v (ix2 r q) = BitVec.ofBool (decide (i r = i q))) :
    simFrom (k2_pay2 (F := Ideal) 0#32 (k2_pay5 (F := Ideal) x x oh lab) v (Scalar.ofBits (F := Ideal) .f32 0x00000000#32))
      (k2_pay3 (F := Ideal) 0#32 v (Scalar.ofBits (F := Ideal) .f32 0x00000000#32)) = kerSim x oh i Y := by
  have hz : (Scalar.ofBits (F := Ideal) .f32 0x00000000#32 : EReal) = 0 := Ideal.ofBits_zero_f32
  rw [weighted_sum, weights_sum, hz, zero_add, zero_add]
  simp only [weight_at i v hv, terms_at, hlab]
  rfl

/-- **The kernel's three results**: the total, -/
theorem out_total (hi : ∀ q, (idx (ix1 q)).toNat = (i q).val) :
    (kernelOut (F := Ideal) x oh idx Y (ix1 0) : EReal) = total (kerSim x oh i Y) (qua x) := by
  rw [(out_at x oh idx Y).1, row, lossRow, row_total, sums x oh Y i _ (label_at idx Y i hi) _ (mask_rows idx i hi)]

/-- the similarity loss, -/
theorem out_sim (hi : ∀ q, (idx (ix1 q)).toNat = (i q).val) :
    (kernelOut (F := Ideal) x oh idx Y (ix1 1) : EReal) = kerSim x oh i Y := by
  rw [(out_at x oh idx Y).2.1, row, lossRow, row_sim, sums x oh Y i _ (label_at idx Y i hi) _ (mask_rows idx i hi)]

/-- and the quantization loss. -/
theorem out_qua : (kernelOut (F := Ideal) x oh idx Y (ix1 2) : EReal) = qua x := by
  rw [(out_at x oh idx Y).2.2, row, lossRow, row_qua]

end

end Cert.KernelIdeal.Value
-- ==== Proof.Value.Algebraic.lean ====
/- The value claim: at the extended reals the kernel and the reference, run from memories that agree on the arguments,
   end with the same three losses and with their arguments unchanged. -/
module

public import proofs.«01_k».proof.Proof.Value.Drawn
public import proofs.«01_k».proof.Proof.Value.RefValue
public import proofs.«01_k».proof.Proof.Value.KernelOut

@[expose] public section

set_option maxRecDepth 16384

noncomputable section

namespace Cert.Value

open Idealize.ShloMosaic Idealize.ShloMosaic.TcCoe Idealize.ShloMosaic.Pointwise Idealize.SL.Sem
open Cert.Proof

/-- The reference's three losses are the kernel's, of the same arguments: the indices name rows, the table of codes is
    zero, and the label rows are one-hot. -/
theorem results_eq (m : (ℓ : Loc Cert.ReferenceIdeal.nD Cert.ReferenceIdeal.τ Cert.ReferenceIdeal.sig) → Buf (Elt Ideal) ℓ)
    (c : Dev Cert.ReferenceIdeal.nD) (x : Mat 1024 64) (oh : Mat 1024 100) (idx : Cert.KernelIdeal.S1024.Idx → BitVec 32) (u : Mat 100000 64) (Y : Mat 100000 100)
    (h0 : m ((c.tc : Thread Cert.ReferenceIdeal.nD Cert.ReferenceIdeal.τ).loc Cert.ReferenceIdeal.main_arg0) = x)
    (h2 : m ((c.tc : Thread Cert.ReferenceIdeal.nD Cert.ReferenceIdeal.τ).loc Cert.ReferenceIdeal.main_arg2) = oh)
    (h3 : m ((c.tc : Thread Cert.ReferenceIdeal.nD Cert.ReferenceIdeal.τ).loc Cert.ReferenceIdeal.main_arg3) = idx)
    (h5 : m ((c.tc : Thread Cert.ReferenceIdeal.nD Cert.ReferenceIdeal.τ).loc Cert.ReferenceIdeal.main_arg5) = u)
    (h6 : m ((c.tc : Thread Cert.ReferenceIdeal.nD Cert.ReferenceIdeal.τ).loc Cert.ReferenceIdeal.main_arg6) = Y)
    (hidx : ∀ j, (idx j).toNat < 100000) (hu : ∀ j, u j = 0) (hoh : ∀ b, OneHot fun k => oh (ix2 b k)) (hY : ∀ n, OneHot fun k => Y (ix2 n k)) :
    Cert.ReferenceIdeal.Value.res_out0 (F := Ideal) m c = Cert.KernelIdeal.Run.kernelOut (F := Ideal) x oh idx Y := by
  subst h0 h2 h3 h5 h6
  let i : Fin 1024 → Fin 100000 := fun q => ⟨_, hidx (ix1 q)⟩
  have hi : ∀ q, (m ((c.tc : Thread Cert.ReferenceIdeal.nD Cert.ReferenceIdeal.τ).loc Cert.ReferenceIdeal.main_arg3) (ix1 q) : BitVec 32).toNat = (i q).val := fun q => rfl
  have key := refSim_eq_kerSim (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg2)) (Cert.ReferenceIdeal.Value.table (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)))
    (m ((c.tc : Thread Cert.ReferenceIdeal.nD Cert.ReferenceIdeal.τ).loc Cert.ReferenceIdeal.main_arg6)) i
    (fun q hq k => Cert.ReferenceIdeal.Value.table_named _ _ _ i hi hidx q hq k)
    (fun n hn k => (Cert.ReferenceIdeal.Value.table_free _ _ _ i hi hidx n hn k).trans (hu _)) hoh hY
  funext j
  have hj : j = ix1 (j 0) := by
    funext a
    match a with
    | ⟨0, _⟩ => rfl
  rw [hj]
  generalize j 0 = p
  match p with
  | ⟨0, _⟩ =>
    refine (Cert.ReferenceIdeal.Value.out_total m c).trans (Eq.trans ?_ (Cert.KernelIdeal.Value.out_total _ _ _ _ i hi).symm)
    exact congrArg (fun s => total s _) key
  | ⟨1, _⟩ => exact (Cert.ReferenceIdeal.Value.out_sim m c).trans (key.trans (Cert.KernelIdeal.Value.out_sim _ _ _ _ i hi).symm)
  | ⟨2, _⟩ => exact (Cert.ReferenceIdeal.Value.out_qua m c).trans (Cert.KernelIdeal.Value.out_qua _ _ _ _).symm

section
attribute [local instance] rangeFacts drawnFacts Cert.KernelIdeal.Gen.facts Cert.ReferenceIdeal.Gen.facts

/-- **The value claim**, all three losses. -/
theorem algebraic : Cert.algebraic_KernelIdeal_ReferenceIdeal_pre_drawn := by
  intro m ρ m' ρ' hpre hagree
  refine ⟨_, (θ_run Cert.KernelIdeal.defs _ _).mono (fun _ h => h.1) (Cert.KernelIdeal.Run.run m ρ (range_drawn m hpre)),
    (θ_run Cert.ReferenceIdeal.defs _ _).mono (fun r h c => ?_) (Cert.ReferenceIdeal.Value.run (F := Ideal) m' ρ')⟩
  refine ⟨(h c).1.trans ?_, (h c).2⟩
  obtain ⟨h0, _, h2, h3, _, h5, h6⟩ := hagree c
  exact results_eq m' c _ _ _ _ _ h0 h2 h3 h5 h6 (range_drawn m hpre c) (drawn_codes m hpre c) (drawn_batch m hpre c) (drawn_table m hpre c)

end

end Cert.Value
-- ==== Proof.lean ====
/- The proof of the certificate's claim: the frames of the three programs, the two sites of the idealization, and the
   equality of the three losses with the reference's. -/
module

public import proofs.«01_k».proof.Defs
public import proofs.«01_k».proof.Proof.Frames
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts, rangeFacts, drawnFacts,
    frame_Kernel, frame_KernelIdeal, frame_KernelIdeal_drawn, frame_ReferenceIdeal, frame_ReferenceIdeal_drawn, sites,
    Cert.Value.algebraic⟩

end Cert.Proof

end
